-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "zero_below" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x3072 : Shape := ⟨2, ![16384, 3072]⟩
abbrev S128 : Shape := ⟨1, ![128]⟩
abbrev S_ : Shape := ⟨0, ![]⟩
abbrev S1 : Shape := ⟨1, ![1]⟩
abbrev S128x256 : Shape := ⟨2, ![128, 256]⟩
abbrev S16384x1024 : Shape := ⟨2, ![16384, 1024]⟩
abbrev S1024x128 : Shape := ⟨2, ![1024, 128]⟩
abbrev S16384x128 : Shape := ⟨2, ![16384, 128]⟩
abbrev S8x128x128 : Shape := ⟨3, ![8, 128, 128]⟩
abbrev S128x128 : Shape := ⟨2, ![128, 128]⟩
abbrev S2048x128 : Shape := ⟨2, ![2048, 128]⟩
abbrev S2048x256 : Shape := ⟨2, ![2048, 256]⟩
abbrev S1x128x128 : Shape := ⟨3, ![1, 128, 128]⟩
abbrev S1x1x1 : Shape := ⟨3, ![1, 1, 1]⟩

abbrev nBuf : Space → Nat
  | .hbm => 27
  | .vmem => 11
  | .smem => 1
  | _ => 0

abbrev bufTy : (tb : Table) → Fin (tcTables nBuf tb) → BufTy
  | .hbm, ⟨0, _⟩ => ⟨S16384x3072, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S128x256, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S128x256, .bf16⟩
  | .hbm, ⟨26, _⟩ => ⟨S16384x1024, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S128x256, .bf16⟩
  | .local _ .vmem, ⟨7, _⟩ => ⟨S1024x128, .bf16⟩
  | .local _ .vmem, ⟨8, _⟩ => ⟨S1024x128, .bf16⟩
  | .local _ .vmem, ⟨9, _⟩ => ⟨S8x128x128, .f32⟩
  | .local _ .vmem, ⟨10, _⟩ => ⟨S8x128x128, .f32⟩
  | .local _ .smem, ⟨0, _⟩ => ⟨S1, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c8_i32 : BitVec 32 := 8#32
  let v13 : BitVec 32 := Scalar.muli arg1 c8_i32
  let c0_i32 : BitVec 32 := 0#32
  let v14 : BitVec 32 := Scalar.addi v13 c0_i32
  let c0_i32_9 : BitVec 32 := 0#32
  let v15 : BitVec 32 := Scalar.subi v14 c0_i32_9
  let c0_i32_10 : BitVec 32 := 0#32
  let v16 : BitVec 32 := Scalar.maxsi v15 c0_i32_10
  let c128_i32 : BitVec 32 := 128#32
  let v17 : BitVec 32 := Scalar.muli v16 c128_i32
  v17
def k0_off1 (i : grid0.Coords) (c0_i32 : BitVec 32) : Fin 2 → Nat :=
  let arg1 : BitVec 32 := BitVec.ofNat 32 (i 1).val
  let c8_i32 : BitVec 32 := 8#32
  let v13 : BitVec 32 := Scalar.muli arg1 c8_i32
  let v14 : BitVec 32 := Scalar.addi v13 c0_i32
  let c0_i32_9 : BitVec 32 := 0#32
  let v15 : BitVec 32 := Scalar.subi v14 c0_i32_9
  let c0_i32_10 : BitVec 32 := 0#32
  let v16 : BitVec 32 := Scalar.maxsi v15 c0_i32_10
  let c128_i32 : BitVec 32 := 128#32
  let v17 : BitVec 32 := Scalar.muli v16 c128_i32
  let v18 : BitVec 32 := v17
  let v20 : Index := Scalar.indexCast v18
  let c0_13 : Index := 0#32
  ![v20.toNat, 0]
def k0_mult2 (i : grid0.Coords) : BitVec 32 :=
  let arg1 : BitVec 32 := BitVec.ofNat 32 (i 1).val
  let c8_i32_20 : BitVec 32 := 8#32
  let v42 : BitVec 32 := Scalar.muli arg1 c8_i32_20
  let c1_i32 : BitVec 32 := 1#32
  let v43 : BitVec 32 := Scalar.addi v42 c1_i32
  let c0_i32_21 : BitVec 32 := 0#32
  let v44 : BitVec 32 := Scalar.subi v43 c0_i32_21
  let c0_i32_22 : BitVec 32 := 0#32
  let v45 : BitVec 32 := Scalar.maxsi v44 c0_i32_22
  let c128_i32_23 : BitVec 32 := 128#32
  let v46 : BitVec 32 := Scalar.muli v45 c128_i32_23
  v46
def k0_mult3 (i : grid0.Coords) : BitVec 32 :=
  let arg1 : BitVec 32 := BitVec.ofNat 32 (i 1).val
  let c8_i32_32 : BitVec 32 := 8#32
  let v71 : BitVec 32 := Scalar.muli arg1 c8_i32_32
  let c2_i32 : BitVec 32 := 2#32
  let v72 : BitVec 32 := Scalar.addi v71 c2_i32
  let c0_i32_33 : BitVec 32 := 0#32
  let v73 : BitVec 32 := Scalar.subi v72 c0_i32_33
  let c0_i32_34 : BitVec 32 := 0#32
  let v74 : BitVec 32 := Scalar.maxsi v73 c0_i32_34
  let c128_i32_35 : BitVec 32 := 128#32
  let v75 : BitVec 32 := Scalar.muli v74 c128_i32_35
  v75
def k0_mult4 (i : grid0.Coords) : BitVec 32 :=
  let arg1 : BitVec 32 := BitVec.ofNat 32 (i 1).val
  let c8_i32_44 : BitVec 32 := 8#32
  let v100 : BitVec 32 := Scalar.muli arg1 c8_i32_44
  let c3_i32 : BitVec 32 := 3#32
  let v101 : BitVec 32 := Scalar.addi v100 c3_i32
  let c0_i32_45 : BitVec 32 := 0#32
  let v102 : BitVec 32 := Scalar.subi v101 c0_i32_45
  let c0_i32_46 : BitVec 32 := 0#32
  let v103 : BitVec 32 := Scalar.maxsi v102 c0_i32_46
  let c128_i32_47 : BitVec 32 := 128#32
  let v104 : BitVec 32 := Scalar.muli v103 c128_i32_47
  v104
def k0_mult5 (i : grid0.Coords) : BitVec 32 :=
  let arg1 : BitVec 32 := BitVec.ofNat 32 (i 1).val
  let c8_i32_56 : BitVec 32 := 8#32
  let v129 : BitVec 32 := Scalar.muli arg1 c8_i32_56
  let c4_i32 : BitVec 32 := 4#32
  let v130 : BitVec 32 := Scalar.addi v129 c4_i32
  let c0_i32_57 : BitVec 32 := 0#32
  let v131 : BitVec 32 := Scalar.subi v130 c0_i32_57
  let c0_i32_58 : BitVec 32 := 0#32
  let v132 : BitVec 32 := Scalar.maxsi v131 c0_i32_58
  let c128_i32_59 : BitVec 32 := 128#32
  let v133 : BitVec 32 := Scalar.muli v132 c128_i32_59
  v133
def k0_mult6 (i : grid0.Coords) : BitVec 32 :=
  let arg1 : BitVec 32 := BitVec.ofNat 32 (i 1).val
  let c8_i32_68 : BitVec 32 := 8#32
  let v158 : BitVec 32 := Scalar.muli arg1 c8_i32_68
  let c5_i32 : BitVec 32 := 5#32
  let v159 : BitVec 32 := Scalar.addi v158 c5_i32
  let c0_i32_69 : BitVec 32 := 0#32
  let v160 : BitVec 32 := Scalar.subi v159 c0_i32_69
  let c0_i32_70 : BitVec 32 := 0#32
  let v161 : BitVec 32 := Scalar.maxsi v160 c0_i32_70
  let c128_i32_71 : BitVec 32 := 128#32
  let v162 : BitVec 32 := Scalar.muli v161 c128_i32_71
  v162
def k0_mult7 (i : grid0.Coords) : BitVec 32 :=
  let arg1 : BitVec 32 := BitVec.ofNat 32 (i 1).val
  let c8_i32_80 : BitVec 32 := 8#32
  let v187 : BitVec 32 := Scalar.muli arg1 c8_i32_80
  let c6_i32 : BitVec 32 := 6#32
  let v188 : BitVec 32 := Scalar.addi v187 c6_i32
  let c0_i32_81 : BitVec 32 := 0#32
  let v189 : BitVec 32 := Scalar.subi v188 c0_i32_81
  let c0_i32_82 : BitVec 32 := 0#32
  let v190 : BitVec 32 := Scalar.maxsi v189 c0_i32_82
  let c128_i32_83 : BitVec 32 := 128#32
  let v191 : BitVec 32 := Scalar.muli v190 c128_i32_83
  v191
def k0_mult8 (i : grid0.Coords) : BitVec 32 :=
  let arg1 : BitVec 32 := BitVec.ofNat 32 (i 1).val
  let c8_i32_92 : BitVec 32 := 8#32
  let v216 : BitVec 32 := Scalar.muli arg1 c8_i32_92
  let c7_i32 : BitVec 32 := 7#32
  let v217 : BitVec 32 := Scalar.addi v216 c7_i32
  let c0_i32_93 : BitVec 32 := 0#32
  let v218 : BitVec 32 := Scalar.subi v217 c0_i32_93
  let c0_i32_94 : BitVec 32 := 0#32
  let v219 : BitVec 32 := Scalar.maxsi v218 c0_i32_94
  let c128_i32_95 : BitVec 32 := 128#32
  let v220 : BitVec 32 := Scalar.muli v219 c128_i32_95
  v220
def k0_mult9 (i : grid0.Coords) : BitVec 32 :=
  let arg1 : BitVec 32 := BitVec.ofNat 32 (i 1).val
  let c8_i32_105 : BitVec 32 := 8#32
  let v247 : BitVec 32 := Scalar.muli arg1 c8_i32_105
  let c0_i32_106 : BitVec 32 := 0#32
  let v248 : BitVec 32 := Scalar.addi v247 c0_i32_106
  let c0_i32_107 : BitVec 32 := 0#32
  let v249 : BitVec 32 := Scalar.subi v248 c0_i32_107
  let c0_i32_108 : BitVec 32 := 0#32
  let v250 : BitVec 32 := Scalar.maxsi v249 c0_i32_108
  let c128_i32_109 : BitVec 32 := 128#32
  let v251 : BitVec 32 := Scalar.muli v250 c128_i32_109
  v251
def k0_mult10 (i : grid0.Coords) : BitVec 32 :=
  let arg1 : BitVec 32 := BitVec.ofNat 32 (i 1).val
  let c8_i32_126 : BitVec 32 := 8#32
  let v283 : BitVec 32 := Scalar.muli arg1 c8_i32_126
  let c1_i32_127 : BitVec 32 := 1#32
  let v284 : BitVec 32 := Scalar.addi v283 c1_i32_127
  let c0_i32_128 : BitVec 32 := 0#32
  let v285 : BitVec 32 := Scalar.subi v284 c0_i32_128
  let c0_i32_129 : BitVec 32 := 0#32
  let v286 : BitVec 32 := Scalar.maxsi v285 c0_i32_129
  let c128_i32_130 : BitVec 32 := 128#32
  let v287 : BitVec 32 := Scalar.muli v286 c128_i32_130
  v287
def k0_mult11 (i : grid0.Coords) : BitVec 32 :=
  let arg1 : BitVec 32 := BitVec.ofNat 32 (i 1).val
  let c8_i32_146 : BitVec 32 := 8#32
  let v319 : BitVec 32 := Scalar.muli arg1 c8_i32_146
  let c2_i32_147 : BitVec 32 := 2#32
  let v320 : BitVec 32 := Scalar.addi v319 c2_i32_147
  let c0_i32_148 : BitVec 32 := 0#32
  let v321 : BitVec 32 := Scalar.subi v320 c0_i32_148
  let c0_i32_149 : BitVec 32 := 0#32
  let v322 : BitVec 32 := Scalar.maxsi v321 c0_i32_149
  let c128_i32_150 : BitVec 32 := 128#32
  let v323 : BitVec 32 := Scalar.muli v322 c128_i32_150
  v323
def k0_mult12 (i : grid0.Coords) : BitVec 32 :=
  let arg1 : BitVec 32 := BitVec.ofNat 32 (i 1).val
  let c8_i32_166 : BitVec 32 := 8#32
  let v355 : BitVec 32 := Scalar.muli arg1 c8_i32_166
  let c3_i32_167 : BitVec 32 := 3#32
  let v356 : BitVec 32 := Scalar.addi v355 c3_i32_167
  let c0_i32_168 : BitVec 32 := 0#32
  let v357 : BitVec 32 := Scalar.subi v356 c0_i32_168
  let c0_i32_169 : BitVec 32 := 0#32
  let v358 : BitVec 32 := Scalar.maxsi v357 c0_i32_169
  let c128_i32_170 : BitVec 32 := 128#32
  let v359 : BitVec 32 := Scalar.muli v358 c128_i32_170
  v359
def k0_mult13 (i : grid0.Coords) : BitVec 32 :=
  let arg1 : BitVec 32 := BitVec.ofNat 32 (i 1).val
  let c8_i32_186 : BitVec 32 := 8#32
  let v391 : BitVec 32 := Scalar.muli arg1 c8_i32_186
  let c4_i32_187 : BitVec 32 := 4#32
  let v392 : BitVec 32 := Scalar.addi v391 c4_i32_187
  let c0_i32_188 : BitVec 32 := 0#32
  let v393 : BitVec 32 := Scalar.subi v392 c0_i32_188
  let c0_i32_189 : BitVec 32 := 0#32
  let v394 : BitVec 32 := Scalar.maxsi v393 c0_i32_189
  let c128_i32_190 : BitVec 32 := 128#32
  let v395 : BitVec 32 := Scalar.muli v394 c128_i32_190
  v395
def k0_mult14 (i : grid0.Coords) : BitVec 32 :=
  let arg1 : BitVec 32 := BitVec.ofNat 32 (i 1).val
  let c8_i32_206 : BitVec 32 := 8#32
  let v427 : BitVec 32 := Scalar.muli arg1 c8_i32_206
  let c5_i32_207 : BitVec 32 := 5#32
  let v428 : BitVec 32 := Scalar.addi v427 c5_i32_207
  let c0_i32_208 : BitVec 32 := 0#32
  let v429 : BitVec 32 := Scalar.subi v428 c0_i32_208
  let c0_i32_209 : BitVec 32 := 0#32
  let v430 : BitVec 32 := Scalar.maxsi v429 c0_i32_209
  let c128_i32_210 : BitVec 32 := 128#32
  let v431 : BitVec 32 := Scalar.muli v430 c128_i32_210
  v431
def k0_mult15 (i : grid0.Coords) : BitVec 32 :=
  let arg1 : BitVec 32 := BitVec.ofNat 32 (i 1).val
  let c8_i32_226 : BitVec 32 := 8#32
  let v463 : BitVec 32 := Scalar.muli arg1 c8_i32_226
  let c6_i32_227 : BitVec 32 := 6#32
  let v464 : BitVec 32 := Scalar.addi v463 c6_i32_227
  let c0_i32_228 : BitVec 32 := 0#32
  let v465 : BitVec 32 := Scalar.subi v464 c0_i32_228
  let c0_i32_229 : BitVec 32 := 0#32
  let v466 : BitVec 32 := Scalar.maxsi v465 c0_i32_229
  let c128_i32_230 : BitVec 32 := 128#32
  let v467 : BitVec 32 := Scalar.muli v466 c128_i32_230
  v467
def k0_mult16 (i : grid0.Coords) : BitVec 32 :=
  let arg1 : BitVec 32 := BitVec.ofNat 32 (i 1).val
  let c8_i32_246 : BitVec 32 := 8#32
  let v499 : BitVec 32 := Scalar.muli arg1 c8_i32_246
  let c7_i32_247 : BitVec 32 := 7#32
  let v500 : BitVec 32 := Scalar.addi v499 c7_i32_247
  let c0_i32_248 : BitVec 32 := 0#32
  let v501 : BitVec 32 := Scalar.subi v500 c0_i32_248
  let c0_i32_249 : BitVec 32 := 0#32
  let v502 : BitVec 32 := Scalar.maxsi v501 c0_i32_249
  let c128_i32_250 : BitVec 32 := 128#32
  let v503 : BitVec 32 := Scalar.muli v502 c128_i32_250
  v503
def k0_mult17 (i : grid0.Coords) (arg10 : BitVec 32) : BitVec 32 :=
  let arg1 : BitVec 32 := BitVec.ofNat 32 (i 1).val
  let c8_i32_308 : BitVec 32 := 8#32
  let v569 : BitVec 32 := Scalar.muli arg1 c8_i32_308
  let c0_i32_309 : BitVec 32 := 0#32
  let v570 : BitVec 32 := Scalar.addi v569 c0_i32_309
  let v571 : BitVec 32 := Scalar.subi v570 arg10
  let c0_i32_310 : BitVec 32 := 0#32
  let v572 : BitVec 32 := Scalar.maxsi v571 c0_i32_310
  let c128_i32_311 : BitVec 32 := 128#32
  let v573 : BitVec 32 := Scalar.muli v572 c128_i32_311
  v573

def k0_off2 (i : grid0.Coords) (arg10 : BitVec 32) (c0_i32_309 : BitVec 32) : Fin 2 → Nat :=
  let arg1 : BitVec 32 := BitVec.ofNat 32 (i 1).val
  let c8_i32_308 : BitVec 32 := 8#32
  let v569 : BitVec 32 := Scalar.muli arg1 c8_i32_308
  let v570 : BitVec 32 := Scalar.addi v569 c0_i32_309
  let v571 : BitVec 32 := Scalar.subi v570 arg10
  let c0_i32_310 : BitVec 32 := 0#32
  let v572 : BitVec 32 := Scalar.maxsi v571 c0_i32_310
  let c128_i32_311 : BitVec 32 := 128#32
  let v573 : BitVec 32 := Scalar.muli v572 c128_i32_311
  let v574 : BitVec 32 := v573
  let v576 : Index := Scalar.indexCast v574
  let c0_314 : Index := 0#32
  ![v576.toNat, 0]
def k0_mult18 (i : grid0.Coords) (arg10 : BitVec 32) : BitVec 32 :=
  let arg1 : BitVec 32 := BitVec.ofNat 32 (i 1).val
  let c8_i32_322 : BitVec 32 := 8#32
  let v599 : BitVec 32 := Scalar.muli arg1 c8_i32_322
  let c1_i32_323 : BitVec 32 := 1#32
  let v600 : BitVec 32 := Scalar.addi v599 c1_i32_323
  let v601 : BitVec 32 := Scalar.subi v600 arg10
  let c0_i32_324 : BitVec 32 := 0#32
  let v602 : BitVec 32 := Scalar.maxsi v601 c0_i32_324
  let c128_i32_325 : BitVec 32 := 128#32
  let v603 : BitVec 32 := Scalar.muli v602 c128_i32_325
  v603
def k0_mult19 (i : grid0.Coords) (arg10 : BitVec 32) : BitVec 32 :=
  let arg1 : BitVec 32 := BitVec.ofNat 32 (i 1).val
  let c8_i32_336 : BitVec 32 := 8#32
  let v629 : BitVec 32 := Scalar.muli arg1 c8_i32_336
  let c2_i32_337 : BitVec 32 := 2#32
  let v630 : BitVec 32 := Scalar.addi v629 c2_i32_337
  let v631 : BitVec 32 := Scalar.subi v630 arg10
  let c0_i32_338 : BitVec 32 := 0#32
  let v632 : BitVec 32 := Scalar.maxsi v631 c0_i32_338
  let c128_i32_339 : BitVec 32 := 128#32
  let v633 : BitVec 32 := Scalar.muli v632 c128_i32_339
  v633
def k0_mult20 (i : grid0.Coords) (arg10 : BitVec 32) : BitVec 32 :=
  let arg1 : BitVec 32 := BitVec.ofNat 32 (i 1).val
  let c8_i32_350 : BitVec 32 := 8#32
  let v659 : BitVec 32 := Scalar.muli arg1 c8_i32_350
  let c3_i32_351 : BitVec 32 := 3#32
  let v660 : BitVec 32 := Scalar.addi v659 c3_i32_351
  let v661 : BitVec 32 := Scalar.subi v660 arg10
  let c0_i32_352 : BitVec 32 := 0#32
  let v662 : BitVec 32 := Scalar.maxsi v661 c0_i32_352
  let c128_i32_353 : BitVec 32 := 128#32
  let v663 : BitVec 32 := Scalar.muli v662 c128_i32_353
  v663
def k0_mult21 (i : grid0.Coords) (arg10 : BitVec 32) : BitVec 32 :=
  let arg1 : BitVec 32 := BitVec.ofNat 32 (i 1).val
  let c8_i32_364 : BitVec 32 := 8#32
  let v689 : BitVec 32 := Scalar.muli arg1 c8_i32_364
  let c4_i32_365 : BitVec 32 := 4#32
  let v690 : BitVec 32 := Scalar.addi v689 c4_i32_365
  let v691 : BitVec 32 := Scalar.subi v690 arg10
  let c0_i32_366 : BitVec 32 := 0#32
  let v692 : BitVec 32 := Scalar.maxsi v691 c0_i32_366
  let c128_i32_367 : BitVec 32 := 128#32
  let v693 : BitVec 32 := Scalar.muli v692 c128_i32_367
  v693
def k0_mult22 (i : grid0.Coords) (arg10 : BitVec 32) : BitVec 32 :=
  let arg1 : BitVec 32 := BitVec.ofNat 32 (i 1).val
  let c8_i32_378 : BitVec 32 := 8#32
  let v719 : BitVec 32 := Scalar.muli arg1 c8_i32_378
  let c5_i32_379 : BitVec 32 := 5#32
  let v720 : BitVec 32 := Scalar.addi v719 c5_i32_379
  let v721 : BitVec 32 := Scalar.subi v720 arg10
  let c0_i32_380 : BitVec 32 := 0#32
  let v722 : BitVec 32 := Scalar.maxsi v721 c0_i32_380
  let c128_i32_381 : BitVec 32 := 128#32
  let v723 : BitVec 32 := Scalar.muli v722 c128_i32_381
  v723
def k0_mult23 (i : grid0.Coords) (arg10 : BitVec 32) : BitVec 32 :=
  let arg1 : BitVec 32 := BitVec.ofNat 32 (i 1).val
  let c8_i32_392 : BitVec 32 := 8#32
  let v749 : BitVec 32 := Scalar.muli arg1 c8_i32_392
  let c6_i32_393 : BitVec 32 := 6#32
  let v750 : BitVec 32 := Scalar.addi v749 c6_i32_393
  let v751 : BitVec 32 := Scalar.subi v750 arg10
  let c0_i32_394 : BitVec 32 := 0#32
  let v752 : BitVec 32 := Scalar.maxsi v751 c0_i32_394
  let c128_i32_395 : BitVec 32 := 128#32
  let v753 : BitVec 32 := Scalar.muli v752 c128_i32_395
  v753
def k0_mult24 (i : grid0.Coords) (arg10 : BitVec 32) : BitVec 32 :=
  let arg1 : BitVec 32 := BitVec.ofNat 32 (i 1).val
  let c8_i32_406 : BitVec 32 := 8#32
  let v779 : BitVec 32 := Scalar.muli arg1 c8_i32_406
  let c7_i32_407 : BitVec 32 := 7#32
  let v780 : BitVec 32 := Scalar.addi v779 c7_i32_407
  let v781 : BitVec 32 := Scalar.subi v780 arg10
  let c0_i32_408 : BitVec 32 := 0#32
  let v782 : BitVec 32 := Scalar.maxsi v781 c0_i32_408
  let c128_i32_409 : BitVec 32 := 128#32
  let v783 : BitVec 32 := Scalar.muli v782 c128_i32_409
  v783
def k0_mult25 (i : grid0.Coords) (arg10 : BitVec 32) : BitVec 32 :=
  let arg1 : BitVec 32 := BitVec.ofNat 32 (i 1).val
  let c8_i32_421 : BitVec 32 := 8#32
  let v811 : BitVec 32 := Scalar.muli arg1 c8_i32_421
  let c0_i32_422 : BitVec 32 := 0#32
  let v812 : BitVec 32 := Scalar.addi v811 c0_i32_422
  let v813 : BitVec 32 := Scalar.subi v812 arg10
  let c0_i32_423 : BitVec 32 := 0#32
  let v814 : BitVec 32 := Scalar.maxsi v813 c0_i32_423
  let c128_i32_424 : BitVec 32 := 128#32
  let v815 : BitVec 32 := Scalar.muli v814 c128_i32_424
  v815
def k0_mult26 (i : grid0.Coords) (arg10 : BitVec 32) : BitVec 32 :=
  let arg1 : BitVec 32 := BitVec.ofNat 32 (i 1).val
  let c8_i32_441 : BitVec 32 := 8#32
  let v847 : BitVec 32 := Scalar.muli arg1 c8_i32_441
  let c1_i32_442 : BitVec 32 := 1#32
  let v848 : BitVec 32 := Scalar.addi v847 c1_i32_442
  let v849 : BitVec 32 := Scalar.subi v848 arg10
  let c0_i32_443 : BitVec 32 := 0#32
  let v850 : BitVec 32 := Scalar.maxsi v849 c0_i32_443
  let c128_i32_444 : BitVec 32 := 128#32
  let v851 : BitVec 32 := Scalar.muli v850 c128_i32_444
  v851
def k0_mult27 (i : grid0.Coords) (arg10 : BitVec 32) : BitVec 32 :=
  let arg1 : BitVec 32 := BitVec.ofNat 32 (i 1).val
  let c8_i32_461 : BitVec 32 := 8#32
  let v883 : BitVec 32 := Scalar.muli arg1 c8_i32_461
  let c2_i32_462 : BitVec 32 := 2#32
  let v884 : BitVec 32 := Scalar.addi v883 c2_i32_462
  let v885 : BitVec 32 := Scalar.subi v884 arg10
  let c0_i32_463 : BitVec 32 := 0#32
  let v886 : BitVec 32 := Scalar.maxsi v885 c0_i32_463
  let c128_i32_464 : BitVec 32 := 128#32
  let v887 : BitVec 32 := Scalar.muli v886 c128_i32_464
  v887
def k0_mult28 (i : grid0.Coords) (arg10 : BitVec 32) : BitVec 32 :=
  let arg1 : BitVec 32 := BitVec.ofNat 32 (i 1).val
  let c8_i32_481 : BitVec 32 := 8#32
  let v919 : BitVec 32 := Scalar.muli arg1 c8_i32_481
  let c3_i32_482 : BitVec 32 := 3#32
  let v920 : BitVec 32 := Scalar.addi v919 c3_i32_482
  let v921 : BitVec 32 := Scalar.subi v920 arg10
  let c0_i32_483 : BitVec 32 := 0#32
  let v922 : BitVec 32 := Scalar.maxsi v921 c0_i32_483
  let c128_i32_484 : BitVec 32 := 128#32
  let v923 : BitVec 32 := Scalar.muli v922 c128_i32_484
  v923
def k0_mult29 (i : grid0.Coords) (arg10 : BitVec 32) : BitVec 32 :=
  let arg1 : BitVec 32 := BitVec.ofNat 32 (i 1).val
  let c8_i32_501 : BitVec 32 := 8#32
  let v955 : BitVec 32 := Scalar.muli arg1 c8_i32_501
  let c4_i32_502 : BitVec 32 := 4#32
  let v956 : BitVec 32 := Scalar.addi v955 c4_i32_502
  let v957 : BitVec 32 := Scalar.subi v956 arg10
  let c0_i32_503 : BitVec 32 := 0#32
  let v958 : BitVec 32 := Scalar.maxsi v957 c0_i32_503
  let c128_i32_504 : BitVec 32 := 128#32
  let v959 : BitVec 32 := Scalar.muli v958 c128_i32_504
  v959
def k0_mult30 (i : grid0.Coords) (arg10 : BitVec 32) : BitVec 32 :=
  let arg1 : BitVec 32 := BitVec.ofNat 32 (i 1).val
  let c8_i32_521 : BitVec 32 := 8#32
  let v991 : BitVec 32 := Scalar.muli arg1 c8_i32_521
  let c5_i32_522 : BitVec 32 := 5#32
  let v992 : BitVec 32 := Scalar.addi v991 c5_i32_522
  let v993 : BitVec 32 := Scalar.subi v992 arg10
  let c0_i32_523 : BitVec 32 := 0#32
  let v994 : BitVec 32 := Scalar.maxsi v993 c0_i32_523
  let c128_i32_524 : BitVec 32 := 128#32
  let v995 : BitVec 32 := Scalar.muli v994 c128_i32_524
  v995
def k0_mult31 (i : grid0.Coords) (arg10 : BitVec 32) : BitVec 32 :=
  let arg1 : BitVec 32 := BitVec.ofNat 32 (i 1).val
  let c8_i32_541 : BitVec 32 := 8#32
  let v1027 : BitVec 32 := Scalar.muli arg1 c8_i32_541
  let c6_i32_542 : BitVec 32 := 6#32
  let v1028 : BitVec 32 := Scalar.addi v1027 c6_i32_542
  let v1029 : BitVec 32 := Scalar.subi v1028 arg10
  let c0_i32_543 : BitVec 32 := 0#32
  let v1030 : BitVec 32 := Scalar.maxsi v1029 c0_i32_543
  let c128_i32_544 : BitVec 32 := 128#32
  let v1031 : BitVec 32 := Scalar.muli v1030 c128_i32_544
  v1031
def k0_mult32 (i : grid0.Coords) (arg10 : BitVec 32) : BitVec 32 :=
  let arg1 : BitVec 32 := BitVec.ofNat 32 (i 1).val
  let c8_i32_561 : BitVec 32 := 8#32
  let v1063 : BitVec 32 := Scalar.muli arg1 c8_i32_561
  let c7_i32_562 : BitVec 32 := 7#32
  let v1064 : BitVec 32 := Scalar.addi v1063 c7_i32_562
  let v1065 : BitVec 32 := Scalar.subi v1064 arg10
  let c0_i32_563 : BitVec 32 := 0#32
  let v1066 : BitVec 32 := Scalar.maxsi v1065 c0_i32_563
  let c128_i32_564 : BitVec 32 := 128#32
  let v1067 : BitVec 32 := Scalar.muli v1066 c128_i32_564
  v1067

def k0_chk1 (i : grid0.Coords) (arg10 : BitVec 32) : Prop :=
  (128 ∣ (k0_mult17 i arg10).toNat) ∧
  (∀ (r : Fin 8), ∀ a, (k0_off2 i arg10 (BitVec.ofNat 32 r.val)) a + S128x128.size a ≤ S16384x128.size a) ∧
  (128 ∣ (k0_mult18 i arg10).toNat) ∧
  (128 ∣ (k0_mult19 i arg10).toNat) ∧
  (128 ∣ (k0_mult20 i arg10).toNat) ∧
  (128 ∣ (k0_mult21 i arg10).toNat) ∧
  (128 ∣ (k0_mult22 i arg10).toNat) ∧
  (128 ∣ (k0_mult23 i arg10).toNat) ∧
  (128 ∣ (k0_mult24 i arg10).toNat) ∧
  (128 ∣ (k0_mult25 i arg10).toNat) ∧
  (128 ∣ (k0_mult26 i arg10).toNat) ∧
  (128 ∣ (k0_mult27 i arg10).toNat) ∧
  (128 ∣ (k0_mult28 i arg10).toNat) ∧
  (128 ∣ (k0_mult29 i arg10).toNat) ∧
  (128 ∣ (k0_mult30 i arg10).toNat) ∧
  (128 ∣ (k0_mult31 i arg10).toNat) ∧
  (128 ∣ (k0_mult32 i arg10).toNat)
theorem k0_mult17_dvd : ∀ (i : grid0.Coords) (arg10 : BitVec 32) (k0_hw1 : k0_chk1 i arg10), 128 ∣ (k0_mult17 i arg10).toNat := fun i arg10 k0_hw1 => k0_hw1.1
theorem k0_off2_inb : ∀ (i : grid0.Coords) (arg10 : BitVec 32) (k0_hw1 : k0_chk1 i arg10), ∀ (r : Fin 8), ∀ a, (k0_off2 i arg10 (BitVec.ofNat 32 r.val)) a + S128x128.size a ≤ S16384x128.size a := fun i arg10 k0_hw1 r => k0_hw1.2.1 r
theorem k0_mult18_dvd : ∀ (i : grid0.Coords) (arg10 : BitVec 32) (k0_hw1 : k0_chk1 i arg10), 128 ∣ (k0_mult18 i arg10).toNat := fun i arg10 k0_hw1 => k0_hw1.2.2.1
theorem k0_mult19_dvd : ∀ (i : grid0.Coords) (arg10 : BitVec 32) (k0_hw1 : k0_chk1 i arg10), 128 ∣ (k0_mult19 i arg10).toNat := fun i arg10 k0_hw1 => k0_hw1.2.2.2.1
theorem k0_mult20_dvd : ∀ (i : grid0.Coords) (arg10 : BitVec 32) (k0_hw1 : k0_chk1 i arg10), 128 ∣ (k0_mult20 i arg10).toNat := fun i arg10 k0_hw1 => k0_hw1.2.2.2.2.1
theorem k0_mult21_dvd : ∀ (i : grid0.Coords) (arg10 : BitVec 32) (k0_hw1 : k0_chk1 i arg10), 128 ∣ (k0_mult21 i arg10).toNat := fun i arg10 k0_hw1 => k0_hw1.2.2.2.2.2.1
theorem k0_mult22_dvd : ∀ (i : grid0.Coords) (arg10 : BitVec 32) (k0_hw1 : k0_chk1 i arg10), 128 ∣ (k0_mult22 i arg10).toNat := fun i arg10 k0_hw1 => k0_hw1.2.2.2.2.2.2.1
theorem k0_mult23_dvd : ∀ (i : grid0.Coords) (arg10 : BitVec 32) (k0_hw1 : k0_chk1 i arg10), 128 ∣ (k0_mult23 i arg10).toNat := fun i arg10 k0_hw1 => k0_hw1.2.2.2.2.2.2.2.1
theorem k0_mult24_dvd : ∀ (i : grid0.Coords) (arg10 : BitVec 32) (k0_hw1 : k0_chk1 i arg10), 128 ∣ (k0_mult24 i arg10).toNat := fun i arg10 k0_hw1 => k0_hw1.2.2.2.2.2.2.2.2.1
theorem k0_mult25_dvd : ∀ (i : grid0.Coords) (arg10 : BitVec 32) (k0_hw1 : k0_chk1 i arg10), 128 ∣ (k0_mult25 i arg10).toNat := fun i arg10 k0_hw1 => k0_hw1.2.2.2.2.2.2.2.2.2.1
theorem k0_mult26_dvd : ∀ (i : grid0.Coords) (arg10 : BitVec 32) (k0_hw1 : k0_chk1 i arg10), 128 ∣ (k0_mult26 i arg10).toNat := fun i arg10 k0_hw1 => k0_hw1.2.2.2.2.2.2.2.2.2.2.1
theorem k0_mult27_dvd : ∀ (i : grid0.Coords) (arg10 : BitVec 32) (k0_hw1 : k0_chk1 i arg10), 128 ∣ (k0_mult27 i arg10).toNat := fun i arg10 k0_hw1 => k0_hw1.2.2.2.2.2.2.2.2.2.2.2.1
theorem k0_mult28_dvd : ∀ (i : grid0.Coords) (arg10 : BitVec 32) (k0_hw1 : k0_chk1 i arg10), 128 ∣ (k0_mult28 i arg10).toNat := fun i arg10 k0_hw1 => k0_hw1.2.2.2.2.2.2.2.2.2.2.2.2.1
theorem k0_mult29_dvd : ∀ (i : grid0.Coords) (arg10 : BitVec 32) (k0_hw1 : k0_chk1 i arg10), 128 ∣ (k0_mult29 i arg10).toNat := fun i arg10 k0_hw1 => k0_hw1.2.2.2.2.2.2.2.2.2.2.2.2.2.1
theorem k0_mult30_dvd : ∀ (i : grid0.Coords) (arg10 : BitVec 32) (k0_hw1 : k0_chk1 i arg10), 128 ∣ (k0_mult30 i arg10).toNat := fun i arg10 k0_hw1 => k0_hw1.2.2.2.2.2.2.2.2.2.2.2.2.2.2.1
theorem k0_mult31_dvd : ∀ (i : grid0.Coords) (arg10 : BitVec 32) (k0_hw1 : k0_chk1 i arg10), 128 ∣ (k0_mult31 i arg10).toNat := fun i arg10 k0_hw1 => k0_hw1.2.2.2.2.2.2.2.2.2.2.2.2.2.2.2.1
theorem k0_mult32_dvd : ∀ (i : grid0.Coords) (arg10 : BitVec 32) (k0_hw1 : k0_chk1 i arg10), 128 ∣ (k0_mult32 i arg10).toNat := fun i arg10 k0_hw1 => k0_hw1.2.2.2.2.2.2.2.2.2.2.2.2.2.2.2.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "zero_below" => some ⊥
  | _ => none
-- ==== ReferenceIdeal.lean ====
abbrev S16384x3072 : Shape := ⟨2, ![16384, 3072]⟩
abbrev S128 : Shape := ⟨1, ![128]⟩
abbrev S16384x1024 : Shape := ⟨2, ![16384, 1024]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S16384x16384 : Shape := ⟨2, ![16384, 16384]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S128, .f32⟩
  | .hbm, ⟨2, _⟩ => ⟨S128, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x8x128, .f32⟩
  | .hbm, ⟨8, _⟩ => ⟨S8x16384x128, .f32⟩
  | .hbm, ⟨9, _⟩ => ⟨S16384x8x128, .f32⟩
  | .hbm, ⟨10, _⟩ => ⟨S8x16384x128, .f32⟩
  | .hbm, ⟨11, _⟩ => ⟨S16384x8x128, .f32⟩
  | .hbm, ⟨12, _⟩ => ⟨S8x16384x128, .f32⟩
  | .hbm, ⟨13, _⟩ => ⟨S8x16384x16384, .f32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S_, .f32⟩
  | .hbm, ⟨36, _⟩ => ⟨S8x16384x16384, .i1⟩
  | .hbm, ⟨37, _⟩ => ⟨S8x16384x16384, .f32⟩
  | .hbm, ⟨38, _⟩ => ⟨S8x16384x16384, .f32⟩
  | .hbm, ⟨39, _⟩ => ⟨S_, .f32⟩
  | .hbm, ⟨40, _⟩ => ⟨S_, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .i1⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S_, .f32⟩
  | .hbm, ⟨63, _⟩ => ⟨S8x16384x16384, .i1⟩
  | .hbm, ⟨64, _⟩ => ⟨S8x16384x16384, .f32⟩
  | .hbm, ⟨65, _⟩ => ⟨S8x16384x16384, .f32⟩
  | .hbm, ⟨66, _⟩ => ⟨S8x16384x128, .f32⟩
  | .hbm, ⟨67, _⟩ => ⟨S16384x8x128, .f32⟩
  | .hbm, ⟨68, _⟩ => ⟨S16384x1024, .f32⟩
  | .hbm, ⟨69, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S3x5632 : Shape := ⟨2, ![3, 5632]⟩
abbrev S5632x2048 : Shape := ⟨2, ![5632, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S528x2048 : Shape := ⟨2, ![528, 2048]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S528x512 : Shape := ⟨2, ![528, 512]⟩
abbrev S512x512 : Shape := ⟨2, ![512, 512]⟩
abbrev S1x512 : Shape := ⟨2, ![1, 512]⟩

abbrev nBuf : Space → Nat
  | .hbm => 12
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x11264, .f32⟩
  | .hbm, ⟨6, _⟩ => ⟨S3x5632, .f32⟩
  | .hbm, ⟨7, _⟩ => ⟨S5632x2048, .f32⟩
  | .hbm, ⟨8, _⟩ => ⟨S1x2048, .f32⟩
  | .hbm, ⟨9, _⟩ => ⟨S2048x11264, .bf16⟩
  | .hbm, ⟨10, _⟩ => ⟨S5632x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S3x512, .f32⟩
  | .local _ .vmem, ⟨13, _⟩ => ⟨S3x512, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S528x2048, .bf16⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_38 : BitVec 32 := 0#32
  let c4_i32 : BitVec 32 := 4#32
  let v79 : BitVec 32 := Scalar.addi c0_i32_38 c4_i32
  let c1_i32_39 : BitVec 32 := 1#32
  ⟨c0_i32_38, v79, c1_i32_39⟩
def k0_mult1 (k0_t1 : Fin k0_t1_loop.trips) : BitVec 32 :=
  let c0_i32_38 : BitVec 32 := 0#32
  let c1_i32_39 : BitVec 32 := 1#32
  let arg15 : BitVec 32 := Scf.iv c0_i32_38 c1_i32_39 k0_t1
  let c128_i32 : BitVec 32 := 128#32
  let v84 : BitVec 32 := Scalar.muli arg15 c128_i32
  v84
def k0_mult2 (k0_t1 : Fin k0_t1_loop.trips) : BitVec 32 :=
  let c16_i32 : BitVec 32 := 16#32
  let c0_i32_38 : BitVec 32 := 0#32
  let c1_i32_39 : BitVec 32 := 1#32
  let arg15 : BitVec 32 := Scf.iv c0_i32_38 c1_i32_39 k0_t1
  let c128_i32_44 : BitVec 32 := 128#32
  let v86 : BitVec 32 := Scalar.muli arg15 c128_i32_44
  let v87 : BitVec 32 := Scalar.addi c16_i32 v86
  v87
def k0_off1 (k0_t1 : Fin k0_t1_loop.trips) : Fin 2 → Nat :=
  let c0_i32_38 : BitVec 32 := 0#32
  let c1_i32_39 : BitVec 32 := 1#32
  let arg15 : BitVec 32 := Scf.iv c0_i32_38 c1_i32_39 k0_t1
  let c128_i32 : BitVec 32 := 128#32
  let v84 : BitVec 32 := Scalar.muli arg15 c128_i32
  let v85 : BitVec 32 := v84
  let v89 : Index := Scalar.indexCast v85
  let c0_45 : Index := 0#32
  ![v89.toNat, 0]
def k0_off2 (k0_t1 : Fin k0_t1_loop.trips) : Fin 2 → Nat :=
  let c16_i32 : BitVec 32 := 16#32
  let c0_i32_38 : BitVec 32 := 0#32
  let c1_i32_39 : BitVec 32 := 1#32
  let arg15 : BitVec 32 := Scf.iv c0_i32_38 c1_i32_39 k0_t1
  let c128_i32_44 : BitVec 32 := 128#32
  let v86 : BitVec 32 := Scalar.muli arg15 c128_i32_44
  let v87 : BitVec 32 := Scalar.addi c16_i32 v86
  let v88 : BitVec 32 := v87
  let v106 : Index := Scalar.indexCast v88
  let c0_49 : Index := 0#32
  ![v106.toNat, 0]
def k0_cond2 (i : grid0.Coords) : BitVec 1 :=
  let arg1 : BitVec 32 := BitVec.ofNat 32 (i 1).val
  let c10_i32 : BitVec 32 := 10#32
  let v44 : BitVec 1 := Scalar.cmpi .eq arg1 c10_i32
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S16384x2048 : Shape := ⟨2, ![16384, 2048]⟩
abbrev S2048 : Shape := ⟨1, ![2048]⟩
abbrev S1x2048 : Shape := ⟨2, ![1, 2048]⟩
abbrev S2048x11264 : Shape := ⟨2, ![2048, 11264]⟩
abbrev S3x5632 : Shape := ⟨2, ![3, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x11264 : Shape := ⟨2, ![16384, 11264]⟩
abbrev S16384x5632 : Shape := ⟨2, ![16384, 5632]⟩
abbrev S16386x5632 : Shape := ⟨2, ![16386, 5632]⟩
abbrev S1x5632 : Shape := ⟨2, ![1, 5632]⟩
abbrev S5632 : Shape := ⟨1, ![5632]⟩

abbrev nBuf : Space → Nat
  | .hbm => 71
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x11264, .f32⟩
  | .hbm, ⟨6, _⟩ => ⟨S3x5632, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x11264, .f32⟩
  | .hbm, ⟨32, _⟩ => ⟨S16384x5632, .f32⟩
  | .hbm, ⟨33, _⟩ => ⟨S16384x5632, .f32⟩
  | .hbm, ⟨34, _⟩ => ⟨S_, .i32⟩
  | .hbm, ⟨35, _⟩ => ⟨S_, .f32⟩
  | .hbm, ⟨36, _⟩ => ⟨S16386x5632, .f32⟩
  | .hbm, ⟨37, _⟩ => ⟨S16384x5632, .f32⟩
  | .hbm, ⟨38, _⟩ => ⟨S1x5632, .f32⟩
  | .hbm, ⟨39, _⟩ => ⟨S5632, .f32⟩
  | .hbm, ⟨40, _⟩ => ⟨S1x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S16384x5632, .f32⟩
  | .hbm, ⟨58, _⟩ => ⟨S16384x5632, .f32⟩
  | .hbm, ⟨59, _⟩ => ⟨S_, .f32⟩
  | .hbm, ⟨60, _⟩ => ⟨S16384x5632, .f32⟩
  | .hbm, ⟨61, _⟩ => ⟨S16384x5632, .f32⟩
  | .hbm, ⟨62, _⟩ => ⟨S_, .f32⟩
  | .hbm, ⟨63, _⟩ => ⟨S16384x5632, .f32⟩
  | .hbm, ⟨64, _⟩ => ⟨S16384x5632, .f32⟩
  | .hbm, ⟨65, _⟩ => ⟨S16384x5632, .f32⟩
  | .hbm, ⟨66, _⟩ => ⟨S16384x5632, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S1x2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S1x2048 : Shape := ⟨2, ![1, 2048]⟩
abbrev S2x2048x12288 : Shape := ⟨3, ![2, 2048, 12288]⟩
abbrev S2x12288 : Shape := ⟨2, ![2, 12288]⟩
abbrev S2048x1 : Shape := ⟨2, ![2048, 1]⟩
abbrev S2x1x12288 : Shape := ⟨3, ![2, 1, 12288]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S2048x1, .f32⟩
  | .hbm, ⟨4, _⟩ => ⟨S2x1x12288, .f32⟩
  | .hbm, ⟨5, _⟩ => ⟨S2x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x1x12288 : Shape := ⟨3, ![1, 1, 12288]⟩
abbrev S2x1x12288 : Shape := ⟨3, ![2, 1, 12288]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x1x12288, .f32⟩
  | .hbm, ⟨27, _⟩ => ⟨S1x1x12288, .f32⟩
  | .hbm, ⟨28, _⟩ => ⟨S2x1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Attn.Ops.lean ====
module

public import proofs.«01_k».proof.Proof.Gen.KernelIdeal.Skeleton
public import proofs.«01_k».proof.Proof.Gen.KernelIdeal.Points
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## One sweep of the kernel, in its own operations

A sweep takes the eight groups `g` one block of keys to the left.  Everything here is the kernel's
arithmetic on 128 × 128 blocks, said once for a variable group. -/

/-- The scores of a block of queries against a block of keys. -/
def zOf (q k : Vec F S128x128 .bf16) : FVec F S128x128 .f32 :=
  matmul dot_S128x128_S128x128_S128x128_1_1_0_0_n_n none q k (constant S128x128 .f32 0x00000000#32)

/-- The log of the stick left by each key of a block, zero outside the mask. -/
def lsOf (mk : IVec S128x128 1) (z : FVec F S128x128 .f32) : FVec F S128x128 .f32 :=
  select mk (subf (broadcast S128x128 (Scalar.ofBits .f32 0x00000000#32))
    (addf (maximumf z (broadcast S128x128 (Scalar.ofBits .f32 0x00000000#32)))
      (log (addf (broadcast S128x128 (Scalar.ofBits .f32 0x3F800000#32))
        (exp (subf (broadcast S128x128 (Scalar.ofBits .f32 0x00000000#32)) (absf z)))))))
    (broadcast S128x128 (Scalar.ofBits .f32 0x00000000#32))

/-- The upper half of a split value. -/
def hiOf (l : FVec F S128x128 .f32) : FVec F S128x128 .bf16 := truncf .bf16 l bitsLt_bf16_f32

/-- The lower half of a split value. -/
def loOf (l : FVec F S128x128 .f32) : FVec F S128x128 .bf16 :=
  truncf .bf16 (subf l (extf .f32 (hiOf l) bitsLt_bf16_f32)) bitsLt_bf16_f32

/-- The eight upper halves over the eight lower halves. -/
def catOf (h l : Fin 8 → FVec F S128x128 .bf16) : FVec F S2048x128 .bf16 :=
  concatenate S2048x128 0 [⟨S128x128, h 0⟩, ⟨S128x128, h 1⟩, ⟨S128x128, h 2⟩, ⟨S128x128, h 3⟩, ⟨S128x128, h 4⟩, ⟨S128x128, h 5⟩,
    ⟨S128x128, h 6⟩, ⟨S128x128, h 7⟩, ⟨S128x128, l 0⟩, ⟨S128x128, l 1⟩, ⟨S128x128, l 2⟩, ⟨S128x128, l 3⟩, ⟨S128x128, l 4⟩,
    ⟨S128x128, l 5⟩, ⟨S128x128, l 6⟩, ⟨S128x128, l 7⟩]
    concatenates_S128x128_S128x128_S128x128_S128x128_S128x128_S128x128_S128x128_S128x128_S128x128_S128x128_S128x128_S128x128_S128x128_S128x128_S128x128_S128x128_S2048x128_d0

/-- The sums along the keys, of all groups at once: one product with the matrix of ones. -/
def cumOf (v2 : FVec F S128x256 .bf16) (ls : Fin 8 → FVec F S128x128 .f32) : FVec F S2048x256 .f32 :=
  matmul dot_S2048x128_S128x256_S2048x256_1_0_0_1_n_n none (catOf (fun g => hiOf (ls g)) (fun g => loOf (ls g))) v2
    (constant S2048x256 .f32 0x00000000#32)

theorem sl1 (g : Fin 8) : S2048x256.Slices ![128 * g.val, 0] S128x256 := by
  revert g; decide

theorem sl2 (g : Fin 8) : S2048x256.Slices ![1024 + 128 * g.val, 0] S128x256 := by
  revert g; decide

/-- Group `g`'s sums: upper plus lower. -/
def cOf (cum : FVec F S2048x256 .f32) (g : Fin 8) : FVec F S128x256 .f32 :=
  addf (extractStridedSlice S128x256 ![128 * g.val, 0] cum (sl1 g)) (extractStridedSlice S128x256 ![1024 + 128 * g.val, 0] cum (sl2 g))

/-- A group's new contribution to the output. -/
def accOf (mk : IVec S128x128 1) (z : FVec F S128x128 .f32) (cc : FVec F S128x256 .f32) (r a : Vec F S1x128x128 .f32)
    (v : Vec F S128x128 .bf16) : FVec F S1x128x128 .f32 :=
  shapeCast S1x128x128
    (addf (shapeCast S128x128 a shapeCasts_S1x128x128_S128x128)
      (matmul dot_S128x128_S128x128_S128x128_1_0_0_1_n_n none
        (truncf .bf16 (select mk (exp (addf (addf z (shapeCast S128x128 r shapeCasts_S1x128x128_S128x128))
            (extractStridedSlice S128x128 ![0, 0] cc slices_S128x256_o0_0_S128x128)))
          (broadcast S128x128 (Scalar.ofBits .f32 0x00000000#32))) bitsLt_bf16_f32)
        v (constant S128x128 .f32 0x00000000#32)))
    shapeCasts_S128x128_S1x128x128

/-- A group's running sum after the sweep, before it is stored. -/
def runV (cc : FVec F S128x256 .f32) (r : Vec F S1x128x128 .f32) : FVec F S128x128 .f32 :=
  addf (shapeCast S128x128 r shapeCasts_S1x128x128_S128x128) (extractStridedSlice S128x128 ![0, 128] cc slices_S128x256_o0_128_S128x128)

/-- The same, in the shape it is stored in. -/
def runOf (cc : FVec F S128x256 .f32) (r : Vec F S1x128x128 .f32) : FVec F S1x128x128 .f32 :=
  shapeCast S1x128x128 (runV cc r) shapeCasts_S128x128_S1x128x128

/-- Its largest element. -/
def maxOf (cc : FVec F S128x256 .f32) (r : Vec F S1x128x128 .f32) : F .f32 :=
  extractAt ![0, 0, 0] (shapeCast S1x1x1 (multiReduction .maximumf [1, 2] S1 (runOf cc r) 0xFF800000#32 reduces_S1x128x128_S1 (.inl rfl) rfl)
    shapeCasts_S1_S1x1x1) inpos_S1x1x1_p0_0_0

/-! ## The buffers -/

/-- The contents of memref `M`'s buffer on core `c`. -/
abbrev Bf (F : FTy → Type) (c : Dev nD) {sp : Space} {S : Shape} {e : EltTy} (M : Memref sig .tc sp S e) : Type :=
  Buf (Elt F) (M.view.loc (c : Thread nD τ))

/-- Contents of the accumulator of the outputs. -/
abbrev BA (F : FTy → Type) (c : Dev nD) : Type := Bf F c (Memref.whole cc0_scratch0)

/-- Contents of the buffer of running sums. -/
abbrev BR (F : FTy → Type) (c : Dev nD) : Type := Bf F c (Memref.whole cc0_scratch1)

theorem rowFits (g : Fin 8) : ∀ a, (![g.val, 0, 0] : Fin 3 → ℕ) a + S1x128x128.size a ≤ S8x128x128.size a := by
  revert g; decide

theorem qFits (g : Fin 8) : ∀ a, (![128 * g.val, 0] : Fin 2 → ℕ) a + S128x128.size a ≤ S1024x128.size a := by
  revert g; decide

/-- Group `g`'s part of an accumulator. -/
abbrev row (g : Fin 8) : Rect S8x128x128 := Rect.unit ![g.val, 0, 0] S1x128x128.size (rowFits g)

variable (c : Dev nD) (i : grid0.Coords)
  (M3 : Memref sig .tc .vmem S1024x128 .bf16) (M4 M5 : Memref sig .tc .vmem S16384x128 .bf16) (v2 : FVec F S128x256 .bf16)

/-- Group `g`'s queries. -/
def qOf (f3 : Bf F c M3) (g : Fin 8) : Vec F S128x128 .bf16 :=
  View.readAt (Elt F) M3.view (Rect.unit (s := S1024x128) ![128 * g.val, 0] S128x128.size (qFits g)).toLoadRect f3

/-- Group `g`'s part of the accumulated outputs. -/
def aRow (A : BA F c) (g : Fin 8) : Vec F S1x128x128 .f32 :=
  View.readAt (Elt F) (Memref.whole cc0_scratch0).view (row g).toLoadRect A

/-- Group `g`'s part of the running sums. -/
def rRow (R : BR F c) (g : Fin 8) : Vec F S1x128x128 .f32 :=
  View.readAt (Elt F) (Memref.whole cc0_scratch1).view (row g).toLoadRect R

/-- The accumulated outputs, every group's part replaced. -/
def putA (A : BA F c) (p : Fin 8 → FVec F S1x128x128 .f32) : BA F c :=
  (Memref.whole cc0_scratch0).view.writes (Elt F) A [⟨row 7, p 7⟩, ⟨row 6, p 6⟩, ⟨row 5, p 5⟩, ⟨row 4, p 4⟩, ⟨row 3, p 3⟩, ⟨row 2, p 2⟩,
    ⟨row 1, p 1⟩, ⟨row 0, p 0⟩]

/-- The running sums, every group's part replaced. -/
def putR (R : BR F c) (p : Fin 8 → FVec F S1x128x128 .f32) : BR F c :=
  (Memref.whole cc0_scratch1).view.writes (Elt F) R [⟨row 7, p 7⟩, ⟨row 6, p 6⟩, ⟨row 5, p 5⟩, ⟨row 4, p 4⟩, ⟨row 3, p 3⟩, ⟨row 2, p 2⟩,
    ⟨row 1, p 1⟩, ⟨row 0, p 0⟩]

/-- The sums of a sweep with masks `mk`, queries `q` and keys `k`. -/
def cumS (mk : Fin 8 → IVec S128x128 1) (q k : Fin 8 → Vec F S128x128 .bf16) : FVec F S2048x256 .f32 :=
  cumOf v2 fun g => lsOf (mk g) (zOf (q g) (k g))

/-- The accumulated outputs after a sweep. -/
def newA (mk : Fin 8 → IVec S128x128 1) (q k v : Fin 8 → Vec F S128x128 .bf16) (A : BA F c) (R : BR F c) : BA F c :=
  putA c A fun g => accOf (mk g) (zOf (q g) (k g)) (cOf (cumS v2 mk q k) g) (rRow c R g) (aRow c A g) (v g)

/-- The running sums after a sweep. -/
def newR (mk : Fin 8 → IVec S128x128 1) (q k : Fin 8 → Vec F S128x128 .bf16) (R : BR F c) : BR F c :=
  putR c R fun g => runOf (cOf (cumS v2 mk q k) g) (rRow c R g)

/-- The largest running sum of each group after a sweep. -/
def newX (mk : Fin 8 → IVec S128x128 1) (q k : Fin 8 → Vec F S128x128 .bf16) (R : BR F c) (g : Fin 8) : F .f32 :=
  maxOf (cOf (cumS v2 mk q k) g) (rRow c R g)

/-! ## The sweeps of the loop -/

/-- The block of keys group `g` is at, as the kernel counts it: negative once the group is done. -/
def jOf (it : BitVec 32) (g : Fin 8) : BitVec 32 :=
  Scalar.subi (Scalar.addi (Scalar.muli (BitVec.ofNat 32 (i 1).val) 8#32) (BitVec.ofNat 32 g.val)) it

/-- A sweep of the loop leaves out the groups that are done. -/
def mkOf (it : BitVec 32) (g : Fin 8) : IVec S128x128 1 := broadcast S128x128 (Scalar.cmpi .sge (jOf i it g) 0#32)

/-- Whether group `g` is not done and has weight left. -/
def goes (v0 : Elt F .f32) (it : BitVec 32) (x : F .f32) (g : Fin 8) : BitVec 1 :=
  Scalar.andi (Scalar.cmpi .sge (jOf i it g) 0#32) (Scalar.cmpf .ogt (Scalar.addf x v0) (Named.named κ "zero_below" 0xC2D00000#32))

/-- Whether the loop goes on: some group does. -/
def condW (v0 : Elt F .f32) (it : BitVec 32) (X : Fin 8 → F .f32) : BitVec 1 :=
  Scalar.ori (Scalar.ori (Scalar.ori (Scalar.ori (Scalar.ori (Scalar.ori (Scalar.ori (goes i v0 it (X 0) 0) (goes i v0 it (X 1) 1))
    (goes i v0 it (X 2) 2)) (goes i v0 it (X 3) 3)) (goes i v0 it (X 4) 4)) (goes i v0 it (X 5) 5)) (goes i v0 it (X 6) 6)) (goes i v0 it (X 7) 7)

/-- The block of keys, or of values, group `g` reads in a sweep of the loop. -/
def kOf (M : Memref sig .tc .vmem S16384x128 .bf16) (it : BitVec 32) (hchk : k0_chk1 i it) (f : Bf F c M) (g : Fin 8) : Vec F S128x128 .bf16 :=
  View.readAt (Elt F) M.view (Rect.unit (s := S16384x128) (k0_off2 i it (BitVec.ofNat 32 g.val)) S128x128.size (k0_off2_inb i it hchk g)).toLoadRect f

/-- The block of keys, or of values, group `g` reads in the first sweep. -/
def kOf1 (M : Memref sig .tc .vmem S16384x128 .bf16) (f : Bf F c M) (g : Fin 8) : Vec F S128x128 .bf16 :=
  View.readAt (Elt F) M.view (Rect.unit (s := S16384x128) (k0_off1 i (BitVec.ofNat 32 g.val)) S128x128.size (k0_off1_inb i g)).toLoadRect f

/-- The mask of the first sweep: the keys before the query. -/
def mk1 : IVec S128x128 1 := cmpi .slt (iota .tc S128x128 32 [1] iota_S128x128_d1_w32) (iota .tc S128x128 32 [0] iota_S128x128_d0_w32)

end Cert.KernelIdeal.Attn

end
-- ==== Proof.Attn.Loop.lean ====
module

public import proofs.«01_k».proof.Proof.Attn.Ops

@[expose] public section

set_option maxRecDepth 16384

noncomputable section

namespace Cert.KernelIdeal.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c` held whole at `f`. -/
abbrev pt (c : Dev nD) {sp : Space} {S : Shape} {e : EltTy} (M : Memref sig .tc sp S e) (f : Bf F c M) : sProp 𝕄 :=
  M.view.loc (c : Thread nD τ) ↦{fullShare} f

theorem goes_eq (i : grid0.Coords) (v0 : Elt F .f32) (it : BitVec 32) (x : F .f32) (g : Fin 8) (h : Scalar.cmpi .sge (jOf i it g) 0#32 = 0#1) :
    goes i v0 it x g = 0#1 := by
  unfold goes; rw [h]
  generalize Scalar.cmpf .ogt (Scalar.addf x v0) (Named.named κ "zero_below" 0xC2D00000#32) = b
  revert b; decide

theorem jOf_toInt (i : grid0.Coords) (it : BitVec 32) (g : Fin 8) (h : it.toNat ≤ 129) :
    (jOf i it g).toInt = ((i 1).val * 8 + g.val : ℤ) - it.toNat := by
  have hi : (i 1).val < 16 := (i 1).isLt
  have hg := g.isLt
  have hit : it = BitVec.ofNat 32 it.toNat := by simp
  unfold jOf
  generalize (i 1).val = a at *
  generalize g.val = b at *
  generalize it.toNat = n at *
  subst hit
  show (BitVec.ofNat 32 a * 8#32 + BitVec.ofNat 32 b - BitVec.ofNat 32 n).toInt = _
  rw [show BitVec.ofNat 32 a * 8#32 + BitVec.ofNat 32 b = BitVec.ofNat 32 (a * 8 + b) by simp [BitVec.ofNat_add, BitVec.ofNat_mul]]
  rw [BitVec.toInt_sub]
  have e1 : (BitVec.ofNat 32 (a * 8 + b)).toInt = a * 8 + b := by
    rw [BitVec.toInt_eq_toNat_cond, BitVec.toNat_ofNat]; split <;> omega
  have e2 : (BitVec.ofNat 32 n).toInt = n := by
    rw [BitVec.toInt_eq_toNat_cond, BitVec.toNat_ofNat]; split <;> omega
  rw [e1, e2]
  simp only [Int.bmod]
  omega

theorem sge_zero (w : BitVec 32) : Scalar.cmpi .sge w 0#32 = if 0 ≤ w.toInt then 1#1 else 0#1 := by
  have h : (0#32).sle w = decide (0 ≤ w.toInt) := rfl
  show BitVec.ofBool ((0#32).sle w) = _
  rw [h]
  by_cases h0 : 0 ≤ w.toInt <;> simp [h0]

theorem jOf_neg (i : grid0.Coords) (it : BitVec 32) (g : Fin 8) (h : it.toNat ≤ 129) (hlt : (i 1).val * 8 + g.val < it.toNat) :
    Scalar.cmpi .sge (jOf i it g) 0#32 = 0#1 := by
  rw [sge_zero, jOf_toInt i it g h, if_neg (by omega)]

theorem jOf_nonneg (i : grid0.Coords) (it : BitVec 32) (g : Fin 8) (h : it.toNat ≤ 129) (hle : it.toNat ≤ (i 1).val * 8 + g.val) :
    Scalar.cmpi .sge (jOf i it g) 0#32 = 1#1 := by
  rw [sge_zero, jOf_toInt i it g h, if_pos (by omega)]

/-- The loop goes on only while some group has a block of keys left. -/
theorem le_of_cond (i : grid0.Coords) (v0 : Elt F .f32) (it : BitVec 32) (X : Fin 8 → F .f32) (h : it.toNat ≤ 129) (hc : condW i v0 it X = 1#1) :
    it.toNat ≤ (i 1).val * 8 + 7 := by
  by_contra hn
  have hz : ∀ g : Fin 8, goes i v0 it (X g) g = 0#1 := fun g =>
    goes_eq i v0 it (X g) g (jOf_neg i it g h (by have := g.isLt; omega))
  unfold condW at hc
  rw [hz 0, hz 1, hz 2, hz 3, hz 4, hz 5, hz 6, hz 7] at hc
  revert hc; decide

/-- The start of the block group `g` reads, clamped to zero as the kernel clamps it. -/
theorem start_eq (i : grid0.Coords) (it : BitVec 32) (g : Fin 8) (h : it.toNat ≤ 129) :
    (Scalar.muli (Scalar.maxsi (jOf i it g) 0#32) 128#32).toNat = ((i 1).val * 8 + g.val - it.toNat) * 128 := by
  have hi : (i 1).val < 16 := (i 1).isLt
  have hg := g.isLt
  have hj := jOf_toInt i it g h
  have hm : Scalar.maxsi (jOf i it g) 0#32 = if (0#32).slt (jOf i it g) then jOf i it g else 0#32 := rfl
  have hs : (0#32).slt (jOf i it g) = decide (0 < (jOf i it g).toInt) := rfl
  rw [hm, hs]
  by_cases hn : 0 < (jOf i it g).toInt
  swap
  · simp only [hn, decide_false]
    have : (i 1).val * 8 + g.val - it.toNat = 0 := by omega
    rw [this]; rfl
  · simp only [hn, decide_true, if_true]
    have hjn : (jOf i it g).toNat = (i 1).val * 8 + g.val - it.toNat := by
      have := BitVec.toInt_eq_toNat_cond (jOf i it g)
      have hb := (jOf i it g).isLt
      split at this <;> omega
    show ((jOf i it g) * 128#32).toNat = _
    rw [BitVec.toNat_mul, hjn]
    simp
    omega

theorem off2_eq (i : grid0.Coords) (it : BitVec 32) (g : Fin 8) (h : it.toNat ≤ 129) :
    k0_off2 i it (BitVec.ofNat 32 g.val) = ![((i 1).val * 8 + g.val - it.toNat) * 128, 0] := by
  rw [← start_eq i it g h]; rfl

theorem off1_eq (i : grid0.Coords) (g : Fin 8) :
    k0_off1 i (BitVec.ofNat 32 g.val) = ![((i 1).val * 8 + g.val) * 128, 0] := by
  have := start_eq i 0#32 g (by simp)
  simp only [BitVec.toNat_ofNat, Nat.zero_mod, Nat.sub_zero] at this
  rw [← this]; rfl

/-- The side condition of the loop's reads: whole blocks inside the keys. -/
theorem chk_of (i : grid0.Coords) (it : BitVec 32) (h : it.toNat ≤ 129) : k0_chk1 i it := by
  have hd : ∀ g : Fin 8, 128 ∣ (Scalar.muli (Scalar.maxsi (jOf i it g) 0#32) 128#32).toNat := fun g => by
    rw [start_eq i it g h]; exact ⟨_, Nat.mul_comm _ _⟩
  have hi : (i 1).val < 16 := (i 1).isLt
  refine ⟨hd 0, fun r a => ?_, hd 1, hd 2, hd 3, hd 4, hd 5, hd 6, hd 7, hd 0, hd 1, hd 2, hd 3, hd 4, hd 5, hd 6, hd 7⟩
  rw [off2_eq i it r h]
  have hr := r.isLt
  fin_cases a
  · show (((i 1).val * 8 + r.val - it.toNat) * 128) + 128 ≤ 16384
    omega
  · show 0 + 128 ≤ 128
    omega

variable (c : Dev nD) (i : grid0.Coords) (v0 : Elt F .f32)
  (M3 : Memref sig .tc .vmem S1024x128 .bf16) (h3 : M3.IsWhole) (M4 : Memref sig .tc .vmem S16384x128 .bf16) (h4 : M4.IsWhole)
  (M5 : Memref sig .tc .vmem S16384x128 .bf16) (h5 : M5.IsWhole) (v2 : FVec F S128x256 .bf16)
  (f3 : Bf F c M3) (f4 : Bf F c M4) (f5 : Bf F c M5)

set_option maxHeartbeats 2000000 in
/-- The loop: an invariant that every sweep keeps holds when it stops, and then its condition fails. -/
theorem loop (Inv : BitVec 32 → BA F c → BR F c → (Fin 8 → F .f32) → Prop)
    (hstep : ∀ (it : BitVec 32) (A : BA F c) (R : BR F c) (X : Fin 8 → F .f32) (hchk : k0_chk1 i it), 1 ≤ it.toNat → it.toNat ≤ (i 1).val * 8 + 7 →
      condW i v0 it X = 1#1 → Inv it A R X →
      Inv (Scalar.addi it 1#32) (newA c v2 (mkOf i it) (qOf c M3 f3) (kOf c i M4 it hchk f4) (kOf c i M5 it hchk f5) A R)
        (newR c v2 (mkOf i it) (qOf c M3 f3) (kOf c i M4 it hchk f4) R) (newX c v2 (mkOf i it) (qOf c M3 f3) (kOf c i M4 it hchk f4) R))
    (P : sProp 𝕄) :
    ∀ (m : ℕ) (it : BitVec 32) (A : BA F c) (R : BR F c) (X : Fin 8 → F .f32), 1 ≤ it.toNat → it.toNat + m = 129 → Inv it A R X →
    ∀ (Q : (BitVec 32 × F .f32 × F .f32 × F .f32 × F .f32 × F .f32 × F .f32 × F .f32 × F .f32) → sProp 𝕄),
    (∀ (it : BitVec 32) (A : BA F c) (R : BR F c) (X : Fin 8 → F .f32), Inv it A R X → condW i v0 it X ≠ 1#1 →
      iprop(pt c M3 f3 ∗ pt c M4 f4 ∗ pt c M5 f5 ∗ pt c (Memref.whole cc0_scratch0) A ∗ pt c (Memref.whole cc0_scratch1) R ∗ P)
        ⊢ Q (it, X 0, X 1, X 2, X 3, X 4, X 5, X 6, X 7)) →
    iprop(pt c M3 f3 ∗ pt c M4 f4 ∗ pt c M5 f5 ∗ pt c (Memref.whole cc0_scratch0) A ∗ pt c (Memref.whole cc0_scratch1) R ∗ P)
    ⊢ wp frame (wpE (defs₀ (F := F)) Variants.nat (c : Thread nD τ) (some m)) Set.univ
        (cc0_while1 i v0 M3 h3 M4 h4 v2 (Memref.whole cc0_scratch1) (Memref.isWhole_whole _) (Memref.whole cc0_scratch0) (Memref.isWhole_whole _) M5 h5
          it (X 0) (X 1) (X 2) (X 3) (X 4) (X 5) (X 6) (X 7)) Q := by
  intro m
  induction m using Nat.strong_induction_on with
  | _ m ih =>
    intro it A R X h1 hm hI Q hQ
    have hchk := chk_of i it (by omega)
    iintro ⟨H3, H4, H5, H8, H9, HP⟩
    unfold cc0_while1
    sl_exec
    split
    · rename_i hc
      have hcond : condW i v0 it X = 1#1 := hc
      have hle := le_of_cond i v0 it X (by omega) hcond
      have hI' := hstep it A R X hchk h1 hle hcond hI
      have hi : (i 1).val < 16 := (i 1).isLt
      have hit : (Scalar.addi it 1#32).toNat = it.toNat + 1 := by
        show (it + 1#32).toNat = _
        rw [BitVec.toNat_add]; simp; omega
      sl_exec
      obtain ⟨m', rfl⟩ : ∃ m', m = m' + 1 := ⟨m - 1, by omega⟩
      iapply (wp_call Variants.nat (c : Thread nD τ) (some (m' + 1)) Set.univ m' (fun u hu => by cases hu; exact Nat.lt_succ_self m'))
      iapply (ih m' (Nat.lt_succ_self m') _ _ _ _ (by omega) (by omega) hI' _ (fun it A R X hI hn => (hQ it A R X hI hn).trans (le_wp_ret _ _ _ _ _)))
      iframe
      isplitl [H8]
      · iexact H8
      · iexact H9
    · rename_i hc
      have hcond : ¬ condW i v0 it X = 1#1 := hc
      iapply ((hQ it A R X hI hcond).trans (le_wp_ret _ _ _ _ _))
      iframe

end Cert.KernelIdeal.Attn

end
-- ==== Proof.Attn.Body.lean ====
module

public import proofs.«01_k».proof.Proof.Attn.Loop

@[expose] public section

set_option maxRecDepth 16384

noncomputable section

namespace Cert.KernelIdeal.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The zeros an accumulator is filled with first. -/
def zeros : FVec F S8x128x128 .f32 :=
  shapeCast S8x128x128 (broadcast S8x128x128 (Scalar.ofBits .f32 0x00000000#32)) shapeCasts_S8x128x128_S8x128x128

/-- The whole of an accumulator. -/
abbrev wholeR : Rect S8x128x128 := Rect.unit (s := S8x128x128) ![0, 0, 0] S8x128x128.size inb_S8x128x128_S8x128x128_0_0_0

/-- Group `g`'s part of the output. -/
abbrev outR (g : Fin 8) : Rect S1024x128 := Rect.unit (s := S1024x128) ![128 * g.val, 0] S128x128.size (qFits g)

variable (c : Dev nD) (i : grid0.Coords)
  (M2 : Memref sig .tc .smem S1 .f32) (h2 : M2.IsWhole)
  (M3 : Memref sig .tc .vmem S1024x128 .bf16) (h3 : M3.IsWhole) (M4 : Memref sig .tc .vmem S16384x128 .bf16) (h4 : M4.IsWhole)
  (M5 : Memref sig .tc .vmem S16384x128 .bf16) (h5 : M5.IsWhole) (M6 : Memref sig .tc .vmem S128x256 .bf16) (h6 : M6.IsWhole)
  (M7 : Memref sig .tc .vmem S1024x128 .bf16) (h7 : M7.IsWhole)
  (f2 : Bf F c M2) (f3 : Bf F c M3) (f4 : Bf F c M4) (f5 : Bf F c M5) (f6 : Bf F c M6) (f7 : Bf F c M7) (A : BA F c) (R : BR F c)

/-- The bound on the scores the call receives. -/
def zbOf : Elt F .f32 :=
  View.readAt (Elt F) M2.view (Rect.unit (s := S1) ![0] S1.size inb_S1_S1_0).toLoadRect f2 (Shape.Idx.first (numel1_S1.symm ▸ Nat.one_pos))

/-- The matrix of ones the call receives. -/
def uOf : FVec F S128x256 .bf16 :=
  shapeCast S128x256 (View.readAt (Elt F) M6.view (Rect.unit (s := S128x256) ![0, 0] S128x256.size inb_S128x256_S128x256_0_0).toLoadRect f6)
    shapeCasts_S128x256_S128x256

/-- The first sweep's sums along the keys. -/
def cum1 (g : Fin 8) : FVec F S128x256 .f32 :=
  cOf (cumS (uOf c M6 f6) (fun _ => mk1) (qOf c M3 f3) (kOf1 c i M4 f4)) g

/-- Group `n`'s part of an accumulator, of the groups counted by naturals. -/
abbrev grp (n : ℕ) : Fin 8 := ⟨n % 8, Nat.mod_lt _ (by decide)⟩

/-- What the first sweep has stored in the running sums before group `n`: the zeros, and the groups before. -/
def preR : ℕ → List (View.Piece (Elt F) S8x128x128 .f32)
  | 0 => [⟨wholeR, zeros⟩]
  | n + 1 => ⟨row (grp n), runOf (cum1 c i M3 M4 M6 f3 f4 f6 (grp n))
      ((Memref.whole cc0_scratch1).view.readCov (Val := Elt F) (preR n) (row (grp n)).toLoadRect)⟩ :: preR n

/-- The running sums group `g` finds in the first sweep. -/
def rIn (g : Fin 8) : Vec F S1x128x128 .f32 :=
  (Memref.whole cc0_scratch1).view.readCov (Val := Elt F) (preR c i M3 M4 M6 f3 f4 f6 g.val) (row g).toLoadRect

/-- What the first sweep has stored in the accumulated outputs before group `n`. -/
def preA : ℕ → List (View.Piece (Elt F) S8x128x128 .f32)
  | 0 => [⟨wholeR, zeros⟩]
  | n + 1 => ⟨row (grp n), accOf mk1 (zOf (qOf c M3 f3 (grp n)) (kOf1 c i M4 f4 (grp n))) (cum1 c i M3 M4 M6 f3 f4 f6 (grp n))
      (rIn c i M3 M4 M6 f3 f4 f6 (grp n))
      ((Memref.whole cc0_scratch0).view.readCov (Val := Elt F) (preA n) (row (grp n)).toLoadRect) (kOf1 c i M5 f5 (grp n))⟩ :: preA n

/-- The accumulated outputs after the first sweep. -/
def firstA : BA F c := (Memref.whole cc0_scratch0).view.writes (Elt F) A (preA c i M3 M4 M5 M6 f3 f4 f5 f6 8)

/-- The running sums after the first sweep. -/
def firstR : BR F c := (Memref.whole cc0_scratch1).view.writes (Elt F) R (preR c i M3 M4 M6 f3 f4 f6 8)

/-- The largest running sums after the first sweep. -/
def firstX (g : Fin 8) : F .f32 := maxOf (cum1 c i M3 M4 M6 f3 f4 f6 g) (rIn c i M3 M4 M6 f3 f4 f6 g)

/-- What a group writes to the output. -/
def outV (a : Vec F S1x128x128 .f32) : FVec F S128x128 .bf16 :=
  truncf .bf16 (shapeCast S128x128 a shapeCasts_S1x128x128_S128x128) bitsLt_bf16_f32

/-- The output's block once every group has written. -/
def putO (A : BA F c) : Bf F c M7 :=
  M7.view.writes (Elt F) f7 [⟨outR 7, outV (aRow c A 7)⟩, ⟨outR 6, outV (aRow c A 6)⟩, ⟨outR 5, outV (aRow c A 5)⟩, ⟨outR 4, outV (aRow c A 4)⟩,
    ⟨outR 3, outV (aRow c A 3)⟩, ⟨outR 2, outV (aRow c A 2)⟩, ⟨outR 1, outV (aRow c A 1)⟩, ⟨outR 0, outV (aRow c A 0)⟩]

set_option maxHeartbeats 4000000 in
/-- One grid point of the kernel: an invariant that the first sweep establishes and every later one keeps
    holds of what the output's block is written from, and the loop's condition fails there. -/
theorem body (Inv : BitVec 32 → BA F c → BR F c → (Fin 8 → F .f32) → Prop)
    (hinit : Inv 1#32 (firstA c i M3 M4 M5 M6 f3 f4 f5 f6 A) (firstR c i M3 M4 M6 f3 f4 f6 R) (firstX c i M3 M4 M6 f3 f4 f6))
    (hstep : ∀ (it : BitVec 32) (A : BA F c) (R : BR F c) (X : Fin 8 → F .f32) (hchk : k0_chk1 i it), 1 ≤ it.toNat → it.toNat ≤ (i 1).val * 8 + 7 →
      condW i (zbOf c M2 f2) it X = 1#1 → Inv it A R X →
      Inv (Scalar.addi it 1#32) (newA c (uOf c M6 f6) (mkOf i it) (qOf c M3 f3) (kOf c i M4 it hchk f4) (kOf c i M5 it hchk f5) A R)
        (newR c (uOf c M6 f6) (mkOf i it) (qOf c M3 f3) (kOf c i M4 it hchk f4) R) (newX c (uOf c M6 f6) (mkOf i it) (qOf c M3 f3) (kOf c i M4 it hchk f4) R))
    (Q : PUnit → sProp 𝕄)
    (hQ : ∀ (it : BitVec 32) (A : BA F c) (R : BR F c) (X : Fin 8 → F .f32), Inv it A R X → condW i (zbOf c M2 f2) it X ≠ 1#1 →
      iprop(pt c M2 f2 ∗ pt c M3 f3 ∗ pt c M4 f4 ∗ pt c M5 f5 ∗ pt c M6 f6 ∗ pt c M7 (putO c M7 f7 A) ∗ pt c (Memref.whole cc0_scratch0) A ∗
        pt c (Memref.whole cc0_scratch1) R) ⊢ Q PUnit.unit) :
    iprop(pt c M2 f2 ∗ pt c M3 f3 ∗ pt c M4 f4 ∗ pt c M5 f5 ∗ pt c M6 f6 ∗ pt c M7 f7 ∗ pt c (Memref.whole cc0_scratch0) A ∗ pt c (Memref.whole cc0_scratch1) R)
    ⊢ wp frame (wpE (defs₀ (F := F)) Variants.nat (c : Thread nD τ) none) Set.univ
        (cc0_stick_breaking i M2 h2 M3 h3 M4 h4 M5 h5 M6 h6 M7 h7 (Memref.whole cc0_scratch0) (Memref.isWhole_whole _) (Memref.whole cc0_scratch1) (Memref.isWhole_whole _)) Q := by
  iintro ⟨H2, H3, H4, H5, H6, H7, H8, H9⟩
  unfold cc0_stick_breaking
  sl_exec
  iapply (wp_call Variants.nat (c : Thread nD τ) none Set.univ 128 (fun u hu => by cases hu))
  iapply (loop c i (zbOf c M2 f2) M3 h3 M4 h4 M5 h5 (uOf c M6 f6) f3 f4 f5 Inv hstep (iprop(pt c M2 f2 ∗ pt c M6 f6 ∗ pt c M7 f7)) 128 1#32 _ _ _
    (by decide) (by decide) hinit _ ?_)
  rotate_left
  · iframe
    isplitl [H8]
    · iexact H8
    · iexact H9
  intro it A R X hI hn
  iintro ⟨H3, H4, H5, H8, H9, H2, H6, H7⟩
  sl_exec
  iapply ((hQ it A R X hI hn).trans (le_wp_ret _ _ _ _ _))
  iframe
  iexact H7

end Cert.KernelIdeal.Attn

end
-- ==== Proof.Attn.Point.lean ====
module

public import proofs.«01_k».proof.Proof.Attn.Body
public import proofs.«01_k».proof.Proof.Gen.KernelIdeal.Launch
public import Idealize.ShloMosaic.Lib.Pipeline.FrameBody

@[expose] public section

set_option maxRecDepth 16384

noncomputable section

namespace Cert.KernelIdeal.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- A whole memref owned at what it reads is its buffer held at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf F c M, ⌜M.view.read (Elt F) f = X⌝ ∗ pt c M f) := by
  unfold owns; rw [h.set_eq_univ]

/-- What is asked of the kernel's arithmetic at a grid point: an invariant that the first sweep establishes, that
    every later sweep keeps, and from which, when the loop stops, the block written satisfies `P`. -/
def Keeps (c : Dev nD) (i : grid0.Coords) (M2 : Memref sig .tc .smem S1 .f32) (M3 : Memref sig .tc .vmem S1024x128 .bf16)
    (M4 M5 : Memref sig .tc .vmem S16384x128 .bf16) (M6 : Memref sig .tc .vmem S128x256 .bf16) (M7 : Memref sig .tc .vmem S1024x128 .bf16)
    (f2 : Bf F c M2) (f3 : Bf F c M3) (f4 : Bf F c M4) (f5 : Bf F c M5) (f6 : Bf F c M6) (P : (S1024x128.Idx → Elt F .bf16) → Prop) : Prop :=
  ∀ (f7 : Bf F c M7) (A : BA F c) (R : BR F c), ∃ Inv : BitVec 32 → BA F c → BR F c → (Fin 8 → F .f32) → Prop,
    Inv 1#32 (firstA c i M3 M4 M5 M6 f3 f4 f5 f6 A) (firstR c i M3 M4 M6 f3 f4 f6 R) (firstX c i M3 M4 M6 f3 f4 f6)
    ∧ (∀ (it : BitVec 32) (A : BA F c) (R : BR F c) (X : Fin 8 → F .f32) (hchk : k0_chk1 i it), 1 ≤ it.toNat → it.toNat ≤ (i 1).val * 8 + 7 →
      condW i (zbOf c M2 f2) it X = 1#1 → Inv it A R X →
      Inv (Scalar.addi it 1#32) (newA c (uOf c M6 f6) (mkOf i it) (qOf c M3 f3) (kOf c i M4 it hchk f4) (kOf c i M5 it hchk f5) A R)
        (newR c (uOf c M6 f6) (mkOf i it) (qOf c M3 f3) (kOf c i M4 it hchk f4) R) (newX c (uOf c M6 f6) (mkOf i it) (qOf c M3 f3) (kOf c i M4 it hchk f4) R))
    ∧ ∀ (it : BitVec 32) (A : BA F c) (R : BR F c) (X : Fin 8 → F .f32), Inv it A R X → condW i (zbOf c M2 f2) it X ≠ 1#1 →
        P (M7.view.read (Elt F) (putO c M7 f7 A))

/-- Nothing asked: the invariant that always holds. -/
theorem keeps_true (c : Dev nD) (i : grid0.Coords) (M2 : Memref sig .tc .smem S1 .f32) (M3 : Memref sig .tc .vmem S1024x128 .bf16)
    (M4 M5 : Memref sig .tc .vmem S16384x128 .bf16) (M6 : Memref sig .tc .vmem S128x256 .bf16) (M7 : Memref sig .tc .vmem S1024x128 .bf16)
    (f2 : Bf F c M2) (f3 : Bf F c M3) (f4 : Bf F c M4) (f5 : Bf F c M5) (f6 : Bf F c M6) :
    Keeps c i M2 M3 M4 M5 M6 M7 f2 f3 f4 f5 f6 fun _ => True :=
  fun _ _ _ => ⟨fun _ _ _ _ => True, trivial, fun _ _ _ _ _ _ _ _ _ => trivial, fun _ _ _ _ _ _ => trivial⟩

/-- What a grid point ends with: the output's block written from what the invariant holds of. -/
def post (c : Dev nD) (M2 : Memref sig .tc .smem S1 .f32) (M3 : Memref sig .tc .vmem S1024x128 .bf16)
    (M4 M5 : Memref sig .tc .vmem S16384x128 .bf16) (M6 : Memref sig .tc .vmem S128x256 .bf16) (M7 : Memref sig .tc .vmem S1024x128 .bf16)
    (f2 : Bf F c M2) (f3 : Bf F c M3) (f4 : Bf F c M4) (f5 : Bf F c M5) (f6 : Bf F c M6) (f7 : Bf F c M7)
    (Inv : BitVec 32 → BA F c → BR F c → (Fin 8 → F .f32) → Prop) (i : grid0.Coords) : sProp 𝕄 :=
  iprop(∃ (it : BitVec 32) (A : BA F c) (R : BR F c) (X : Fin 8 → F .f32), ⌜Inv it A R X ∧ condW i (zbOf c M2 f2) it X ≠ 1#1⌝ ∗
    (pt c M2 f2 ∗ pt c M3 f3 ∗ pt c M4 f4 ∗ pt c M5 f5 ∗ pt c M6 f6 ∗ pt c M7 (putO c M7 f7 A) ∗ pt c (Memref.whole cc0_scratch0) A ∗
      pt c (Memref.whole cc0_scratch1) R))

/-- One grid point on its staging buffers. -/
theorem point (c : Dev nD) (i : grid0.Coords)
    (M2 : Memref sig .tc .smem S1 .f32) (h2 : M2.IsWhole)
    (M3 : Memref sig .tc .vmem S1024x128 .bf16) (h3 : M3.IsWhole) (M4 : Memref sig .tc .vmem S16384x128 .bf16) (h4 : M4.IsWhole)
    (M5 : Memref sig .tc .vmem S16384x128 .bf16) (h5 : M5.IsWhole) (M6 : Memref sig .tc .vmem S128x256 .bf16) (h6 : M6.IsWhole)
    (M7 : Memref sig .tc .vmem S1024x128 .bf16) (h7 : M7.IsWhole)
    (x2 : S1.Idx → Elt F .f32) (x3 : S1024x128.Idx → Elt F .bf16) (x4 x5 : S16384x128.Idx → Elt F .bf16) (x6 : S128x256.Idx → Elt F .bf16)
    (P : (S1024x128.Idx → Elt F .bf16) → Prop)
    (hP : ∀ (f2 : Bf F c M2) (f3 : Bf F c M3) (f4 : Bf F c M4) (f5 : Bf F c M5) (f6 : Bf F c M6), M2.view.read (Elt F) f2 = x2 →
      M3.view.read (Elt F) f3 = x3 → M4.view.read (Elt F) f4 = x4 → M5.view.read (Elt F) f5 = x5 → M6.view.read (Elt F) f6 = x6 →
      Keeps c i M2 M3 M4 M5 M6 M7 f2 f3 f4 f5 f6 P) :
    iprop(Pipeline.ΦA (U := UR sig nD τ) (Val := Elt F) spec0 c ∗ owns (c : Thread nD τ) M2 fullShare x2 ∗ owns (c : Thread nD τ) M3 fullShare x3
      ∗ owns (c : Thread nD τ) M4 fullShare x4 ∗ owns (c : Thread nD τ) M5 fullShare x5 ∗ owns (c : Thread nD τ) M6 fullShare x6
      ∗ (∃ X, owns (c : Thread nD τ) M7 fullShare X))
    ⊢ wp frame (wpE (defs₀ (F := F)) Variants.nat (c : Thread nD τ) none) Set.univ
        (cc0_stick_breaking i M2 h2 M3 h3 M4 h4 M5 h5 M6 h6 M7 h7 (Memref.whole cc0_scratch0) (Memref.isWhole_whole _) (Memref.whole cc0_scratch1) (Memref.isWhole_whole _))
        (fun _ => iprop(Pipeline.ΦA (U := UR sig nD τ) (Val := Elt F) spec0 c ∗ owns (c : Thread nD τ) M2 fullShare x2 ∗ owns (c : Thread nD τ) M3 fullShare x3
          ∗ owns (c : Thread nD τ) M4 fullShare x4 ∗ owns (c : Thread nD τ) M5 fullShare x5 ∗ owns (c : Thread nD τ) M6 fullShare x6
          ∗ (∃ X, ⌜P X⌝ ∗ owns (c : Thread nD τ) M7 fullShare X))) := by
  simp only [owns_pt c M2 h2, owns_pt c M3 h3, owns_pt c M4 h4, owns_pt c M5 h5, owns_pt c M6 h6, owns_pt c M7 h7]
  unfold Pipeline.ΦA
  rw [scopedRest0_eq]
  iintro ⟨⟨⟨⟨%A, HA⟩, ⟨%R, HR⟩⟩, Hg⟩, ⟨%f2, %e2, H2⟩, ⟨%f3, %e3, H3⟩, ⟨%f4, %e4, H4⟩, ⟨%f5, %e5, H5⟩, ⟨%f6, %e6, H6⟩, ⟨%X7, %f7, %e7, H7⟩⟩
  obtain ⟨Inv, hinit, hstep, hend⟩ := hP f2 f3 f4 f5 f6 e2 e3 e4 e5 e6 f7 A R
  iapply (wp_wand_r _ _ _ (Q := fun _ => post c M2 M3 M4 M5 M6 M7 f2 f3 f4 f5 f6 f7 Inv i))
  isplitl [HA HR H2 H3 H4 H5 H6 H7]
  · iapply (body c i M2 h2 M3 h3 M4 h4 M5 h5 M6 h6 M7 h7 f2 f3 f4 f5 f6 f7 A R Inv hinit hstep
      _ ?_)
    rotate_left
    · iframe
    intro it A R X hI hn
    unfold post
    iintro H
    iexists it, A, R, X
    isplitr
    · ipureintro; exact ⟨hI, hn⟩
    · iexact H
  · iintro %u H
    unfold post
    icases H with ⟨%it, %A', %R', %X, %hI, H2, H3, H4, H5, H6, H7, HA, HR⟩
    isplitl [HA HR Hg]
    · isplitl [HA HR]
      · isplitl [HA]
        · iexists A'; iexact HA
        · iexists R'; iexact HR
      · iexact Hg
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    iexists (M7.view.read (Elt F) (putO c M7 f7 A'))
    isplitr
    · ipureintro; exact hend it A' R' X hI.1 hI.2
    iexists _
    isplitr
    · ipureintro; exact rfl
    iexact H7

end Cert.KernelIdeal.Attn

end
-- ==== Proof.Attn.Launch.lean ====
module

public import proofs.«01_k».proof.Proof.Attn.Point
public import Idealize.ShloMosaic.Lib.Pipeline.Frame

@[expose] public section

set_option maxRecDepth 16384

noncomputable section

namespace Cert.KernelIdeal.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-! ## The host operations before the call -/

/-- The host operations, in their stretches. -/
abbrev hostOps : List (List (HloOp τ sig (Elt F))) := [hostOps0, hostOps0_1, hostOps0_2]

theorem hostOps_fresh : (hostOps : List (List (HloOp τ sig (Elt F)))).Forall fun ops => ops.Forall fun op => op.fresh = ∅ := by
  simp only [List.Forall]; repeat' constructor

theorem hostOps_sub : (hostOps : List (List (HloOp τ sig (Elt F)))).Forall fun ops => ops.Forall fun op => op.bufs ⊆ StableHlo.tcRefs τ sig := by
  simp only [List.Forall]; exact ⟨hostOps0_sub, hostOps0_1_sub, hostOps0_2_sub⟩

variable (m : (ℓ : Loc nD τ sig) → Buf (Elt F) ℓ)

/-- The buffers when the call is entered. -/
abbrev V (c : Dev nD) (b : Ref sig .tc) : Buf (Elt F) ((c : Thread nD τ).loc b) :=
  StableHlo.after (hostOps (F := F)).flatten (fun b => m (c, b)) b

theorem hmain : Pipeline.HMain (Ix := Unit) (Name := ℕ) (U := UR sig nD τ) (Lvl := ℕ) cfgs 0 (defs₀ (F := F)) Variants.nat m (main (F := F)) (V m) :=
  Pipeline.hmain_prefixes cfgs 0 defs₀ Variants.nat m main hostOps hostOps_sub hostOps_fresh main_chain

/-! ## The call -/

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's data: every input left in place, the output's block at point `t` being `out c t`. -/
def dats (out : Dev nD → Fin (cfg0 (F := F)).N → S1024x128.Idx → Elt F .bf16) (_ : Fin 1) (c : Dev nD) :
    Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out c t
  Φ _ := Pipeline.ΦA spec0 c
  q w := Pipeline.shareOf spec0 w
  owed _ := 0

variable (out : Dev nD → Fin (cfg0 (F := F)).N → S1024x128.Idx → Elt F .bf16)

theorem before_in {c : Dev nD} (w : Fin (cfg0 (F := F)).W) (hw : ((cfg0 (F := F)).win w).isOut = false)
    (hafter : ∀ t, ((cfg0 (F := F)).win w).cut ((cfg0 (F := F)).grid.coords t) ((dats m out 0 c).after w t) = (dats m out 0 c).blockOf w t)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (t : Fin (cfg0 (F := F)).N) (d) : (dats m out 0 c).before w t d = (dats m out 0 c).fetched w t d :=
  (dats m out 0 c).before_in_eq_fetched w hw (fun _ => rfl) hclip hafter t d

theorem before0 (c : Dev nD) (t : Fin (cfg0 (F := F)).N) (d) : (dats m out 0 c).before 0 t d = iblk m c 0 t :=
  (before_in m out 0 rfl (fun _ => rfl) (fun _ _ _ => rfl) t d).trans rfl
theorem before1 (c : Dev nD) (t : Fin (cfg0 (F := F)).N) (d) : (dats m out 0 c).before 1 t d = iblk m c 1 t :=
  (before_in m out 1 rfl (fun _ => rfl) (fun _ _ _ => rfl) t d).trans rfl
theorem before2 (c : Dev nD) (t : Fin (cfg0 (F := F)).N) (d) : (dats m out 0 c).before 2 t d = iblk m c 2 t :=
  (before_in m out 2 rfl (fun _ => rfl) (fun _ _ _ => rfl) t d).trans rfl
theorem before3 (c : Dev nD) (t : Fin (cfg0 (F := F)).N) (d) : (dats m out 0 c).before 3 t d = iblk m c 3 t :=
  (before_in m out 3 rfl (fun _ => rfl) (fun _ _ _ => rfl) t d).trans rfl
theorem before4 (c : Dev nD) (t : Fin (cfg0 (F := F)).N) (d) : (dats m out 0 c).before 4 t d = iblk m c 4 t :=
  (before_in m out 4 rfl (fun _ => rfl) (fun _ _ _ => rfl) t d).trans rfl

/-- The pipeline calls the kernel on its staging buffers. -/
theorem row0 (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

/-- One grid point on the pipeline's staging buffers, each input found at its block. -/
theorem sound (c : Dev nD) (t : Fin (cfg0 (F := F)).N) (P : (S1024x128.Idx → Elt F .bf16) → Prop) (O : sProp 𝕄)
    (hP : ∀ (f2 : Bf F c (st0_0 t)) (f3 : Bf F c (st0_1 t)) (f4 : Bf F c (st0_2 t)) (f5 : Bf F c (st0_3 t)) (f6 : Bf F c (st0_4 t)),
      (st0_0 t).view.read (Elt F) f2 = iblk m c 0 t → (st0_1 t).view.read (Elt F) f3 = iblk m c 1 t → (st0_2 t).view.read (Elt F) f4 = iblk m c 2 t →
      (st0_3 t).view.read (Elt F) f5 = iblk m c 3 t → (st0_4 t).view.read (Elt F) f6 = iblk m c 4 t →
      Keeps c (grid0.coords t) (st0_0 t) (st0_1 t) (st0_2 t) (st0_3 t) (st0_4 t) (st0_5 t) f2 f3 f4 f5 f6 P) :
    iprop(Pipeline.ΦA spec0 c ∗ O ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ X, owns (c : Thread nD τ) (st0_5 t) fullShare X))
    ⊢ wp frame (wpE (defs₀ (F := F)) Variants.nat (c : Thread nD τ) none) Set.univ (bodyAt0 t) (fun _ =>
      iprop(Pipeline.ΦA spec0 c ∗ O ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ (∃ X, ⌜P X⌝ ∗ owns (c : Thread nD τ) (st0_5 t) fullShare X))) := by
  simp only [before0, before1, before2, before3, before4]
  iintro ⟨HΦ, Ho, ⟨%d0, H0⟩, ⟨%d1, H1⟩, ⟨%d2, H2⟩, ⟨%d3, H3⟩, ⟨%d4, H4⟩, H5⟩
  iapply (wp_wand_r _ _ _)
  isplitl [HΦ H0 H1 H2 H3 H4 H5]
  · iapply (point c (grid0.coords t) _ _ _ _ _ _ _ _ _ _ _ _ (iblk m c 0 t) (iblk m c 1 t) (iblk m c 2 t) (iblk m c 3 t) (iblk m c 4 t) P hP)
    isplitl [HΦ]; · iexact HΦ
    isplitl [H0]; · iexact H0
    isplitl [H1]; · iexact H1
    isplitl [H2]; · iexact H2
    isplitl [H3]; · iexact H3
    isplitl [H4]; · iexact H4
    iexact H5
  · iintro %u ⟨HΦ, H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The frame's obligation: nothing is said of the output. -/
theorem frame_obligation (c : Dev nD) : BodyObligation (dats m out 0 c) (defs₀ (F := F)) Variants.nat () Set.univ (fun w => w == 5) := fun t => by
  rw [row0, bigSep_W0, bigSep_W0]
  refine (sound m out c t (fun _ => True) ((dats m out 0 c).owesAt () t.castSucc)
    (fun f2 f3 f4 f5 f6 _ _ _ _ _ => keeps_true c _ _ _ _ _ _ _ f2 f3 f4 f5 f6)).trans (wp_mono _ _ _ fun _ => ?_)
  show _ ⊢ iprop(Pipeline.ΦA spec0 c ∗ (dats m out 0 c).owesAt () t.castSucc ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ (∃ X, owns (c : Thread nD τ) (st0_5 t) fullShare X))
  iintro ⟨HΦ, Ho, H0, H1, H2, H3, H4, %X, %_, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists X; iexact H5

/-- The obligation with the output: the block left at each point is `out c t`. -/
theorem value_obligation (c : Dev nD)
    (hP : ∀ (t : Fin (cfg0 (F := F)).N) (f2 : Bf F c (st0_0 t)) (f3 : Bf F c (st0_1 t)) (f4 : Bf F c (st0_2 t)) (f5 : Bf F c (st0_3 t)) (f6 : Bf F c (st0_4 t)),
      (st0_0 t).view.read (Elt F) f2 = iblk m c 0 t → (st0_1 t).view.read (Elt F) f3 = iblk m c 1 t → (st0_2 t).view.read (Elt F) f4 = iblk m c 2 t →
      (st0_3 t).view.read (Elt F) f5 = iblk m c 3 t → (st0_4 t).view.read (Elt F) f6 = iblk m c 4 t →
      Keeps c (grid0.coords t) (st0_0 t) (st0_1 t) (st0_2 t) (st0_3 t) (st0_4 t) (st0_5 t) f2 f3 f4 f5 f6 (· = out c t)) :
    BodyObligation (dats m out 0 c) (defs₀ (F := F)) Variants.nat () Set.univ := fun t => by
  rw [row0, bigSep_W0, bigSep_W0]
  have h0 : iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ d, owns (c : Thread nD τ) (st0_5 t) fullShare ((dats m out 0 c).before 5 t d))) ⊢
      iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ X, owns (c : Thread nD τ) (st0_5 t) fullShare X)) := by
    iintro ⟨HΦ, Ho, H0, H1, H2, H3, H4, %d, H5⟩
    iframe
    iexists _; iexact H5
  refine (h0.trans (sound m out c t (· = out c t) ((dats m out 0 c).owesAt () t.castSucc) (hP t))).trans (wp_mono _ _ _ fun _ => ?_)
  show _ ⊢ iprop(Pipeline.ΦA spec0 c ∗ (dats m out 0 c).owesAt () t.castSucc ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (out c t))
  iintro ⟨HΦ, Ho, H0, H1, H2, H3, H4, %X, %e, H5⟩
  subst e
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The run, nothing said of the output: every input of the call and every other buffer as the host operations left it. -/
theorem run_frame (ρ : Dev nD → PrngReg) :
    θ_run (defs (F := F)) (onTc (τ := τ) (main (F := F))) (s₀ m ρ) fun r =>
      Pipeline.RDat.FramePost (cfg0 (F := F)) (fun c => (dats m out 0 c).toRForget fun w => w == 5) (V m) r ∧ r.2.sem = fun _ => 0 :=
  Pipeline.θ_run_frame_forget_shared cfgs (dats m out) 0 launch₀0 defs₀ Variants.nat (fun w => w == 5) m ρ main
    (fun c => (frame_obligation m out c).loose) (fun _ _ _ => rfl) (fun _ _ => rfl) (V m) (hmain m) (fun _ _ => rfl) (fun _ _ => rfl) _
    (fun _ h => h)

/-- The run with the output: the output array holds the blocks `out c t` side by side. -/
theorem run_value (ρ : Dev nD → PrngReg)
    (hP : ∀ (c : Dev nD) (t : Fin (cfg0 (F := F)).N) (f2 : Bf F c (st0_0 t)) (f3 : Bf F c (st0_1 t)) (f4 : Bf F c (st0_2 t)) (f5 : Bf F c (st0_3 t)) (f6 : Bf F c (st0_4 t)),
      (st0_0 t).view.read (Elt F) f2 = iblk m c 0 t → (st0_1 t).view.read (Elt F) f3 = iblk m c 1 t → (st0_2 t).view.read (Elt F) f4 = iblk m c 2 t →
      (st0_3 t).view.read (Elt F) f5 = iblk m c 3 t → (st0_4 t).view.read (Elt F) f6 = iblk m c 4 t →
      Keeps c (grid0.coords t) (st0_0 t) (st0_1 t) (st0_2 t) (st0_3 t) (st0_4 t) (st0_5 t) f2 f3 f4 f5 f6 (· = out c t)) :
    θ_run (defs (F := F)) (onTc (τ := τ) (main (F := F))) (s₀ m ρ) fun r =>
      Pipeline.FramePost cfgs (dats m out) 0 (V m) r ∧ r.2.sem = fun _ => 0 :=
  Pipeline.θ_run_frame_shared cfgs (dats m out) 0 launch₀0 defs₀ Variants.nat m ρ main
    (fun c => (value_obligation m out c (hP c)).loose) (fun _ _ _ => rfl) (fun _ _ => rfl) (V m) (hmain m) (fun _ _ => rfl) (fun _ _ => rfl) _
    (fun _ h => h)

end Cert.KernelIdeal.Attn

end
-- ==== Proof.Attn.Args.lean ====
module

public import proofs.«01_k».proof.Proof.Attn.Launch
public import Idealize.ShloMosaic.Lib.StableHlo.Run

@[expose] public section

set_option maxRecDepth 16384

noncomputable section

/-! # The run's frame -/

namespace Cert.KernelIdeal.Attn

open Cert.KernelIdeal Cert.KernelIdeal.Gen

open Idealize.ShloMosaic Idealize.ShloMosaic.TcCoe Idealize.SL.Sem Idealize.ShloMosaic.StableHlo

variable {F : FTy → Type} [FloatOps F] [Named F]

variable (m : (ℓ : Loc nD τ sig) → Buf (Elt F) ℓ)

/-- The host operations leave the arguments as they are. -/
theorem V_arg0 (c : Dev nD) : V m c main_arg0 = m ((c.tc : Thread nD τ).loc main_arg0) := by
  show after (hostOps (F := F)).flatten (fun b => m (c, b)) main_arg0 = _
  simp only [hostOps, hostOps0, hostOps0_1, hostOps0_2, List.flatten_cons, List.flatten_nil, List.cons_append, List.nil_append, TRef.binary, TRef.nullary, TRef.ternary, TRef.unary, TRef.toBuf, TRef.ofBuf, cast_eq]
  after_results_simp <;> rfl

theorem V_arg1 (c : Dev nD) : V m c main_arg1 = m ((c.tc : Thread nD τ).loc main_arg1) := by
  show after (hostOps (F := F)).flatten (fun b => m (c, b)) main_arg1 = _
  simp only [hostOps, hostOps0, hostOps0_1, hostOps0_2, List.flatten_cons, List.flatten_nil, List.cons_append, List.nil_append, TRef.binary, TRef.nullary, TRef.ternary, TRef.unary, TRef.toBuf, TRef.ofBuf, cast_eq]
  after_results_simp <;> rfl

theorem V_arg2 (c : Dev nD) : V m c main_arg2 = m ((c.tc : Thread nD τ).loc main_arg2) := by
  show after (hostOps (F := F)).flatten (fun b => m (c, b)) main_arg2 = _
  simp only [hostOps, hostOps0, hostOps0_1, hostOps0_2, List.flatten_cons, List.flatten_nil, List.cons_append, List.nil_append, TRef.binary, TRef.nullary, TRef.ternary, TRef.unary, TRef.toBuf, TRef.ofBuf, cast_eq]
  after_results_simp <;> rfl

/-- The program runs, leaves its arguments as they were, and every counter at zero. -/
theorem frame (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run _ _ _).mono (fun r h => ⟨fun c => ⟨(h.1.arr_in c (1 : Fin 6) rfl).trans (V_arg0 m c),
      ((h.1 c).2 main_arg1 (show main_arg1 ∈ Pipeline.restRefs sig spec0 by decide)).trans (V_arg1 m c), ((h.1 c).2 main_arg2 (show main_arg2 ∈ Pipeline.restRefs sig spec0 by decide)).trans (V_arg2 m c)⟩, h.2⟩)
    (run_frame m (fun _ _ => constant S1024x128 .bf16 0#16) ρ)

end Cert.KernelIdeal.Attn

end
-- ==== Proof.AttnBits.Launch.lean ====
module

public import proofs.«01_k».proof.Proof.AttnBits.Point
public import Idealize.ShloMosaic.Lib.Pipeline.Frame

@[expose] public section

set_option maxRecDepth 16384

noncomputable section

namespace Cert.Kernel.Attn

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The host operations before the call -/

/-- The host operations, in their stretches. -/
abbrev hostOps : List (List (HloOp τ sig (Elt F))) := [hostOps0, hostOps0_1, hostOps0_2]

theorem hostOps_fresh : (hostOps : List (List (HloOp τ sig (Elt F)))).Forall fun ops => ops.Forall fun op => op.fresh = ∅ := by
  simp only [List.Forall]; repeat' constructor

theorem hostOps_sub : (hostOps : List (List (HloOp τ sig (Elt F)))).Forall fun ops => ops.Forall fun op => op.bufs ⊆ StableHlo.tcRefs τ sig := by
  simp only [List.Forall]; exact ⟨hostOps0_sub, hostOps0_1_sub, hostOps0_2_sub⟩

variable (m : (ℓ : Loc nD τ sig) → Buf (Elt F) ℓ)

/-- The buffers when the call is entered. -/
abbrev V (c : Dev nD) (b : Ref sig .tc) : Buf (Elt F) ((c : Thread nD τ).loc b) :=
  StableHlo.after (hostOps (F := F)).flatten (fun b => m (c, b)) b

theorem hmain : Pipeline.HMain (Ix := Unit) (Name := ℕ) (U := UR sig nD τ) (Lvl := ℕ) cfgs 0 (defs₀ (F := F)) Variants.nat m (main (F := F)) (V m) :=
  Pipeline.hmain_prefixes cfgs 0 defs₀ Variants.nat m main hostOps hostOps_sub hostOps_fresh main_chain

/-! ## The call -/

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's data: every input left in place, the output's block at point `t` being `out c t`. -/
def dats (out : Dev nD → Fin (cfg0 (F := F)).N → S1024x128.Idx → Elt F .bf16) (_ : Fin 1) (c : Dev nD) :
    Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out c t
  Φ _ := Pipeline.ΦA spec0 c
  q w := Pipeline.shareOf spec0 w
  owed _ := 0

variable (out : Dev nD → Fin (cfg0 (F := F)).N → S1024x128.Idx → Elt F .bf16)

theorem before_in {c : Dev nD} (w : Fin (cfg0 (F := F)).W) (hw : ((cfg0 (F := F)).win w).isOut = false)
    (hafter : ∀ t, ((cfg0 (F := F)).win w).cut ((cfg0 (F := F)).grid.coords t) ((dats m out 0 c).after w t) = (dats m out 0 c).blockOf w t)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (t : Fin (cfg0 (F := F)).N) (d) : (dats m out 0 c).before w t d = (dats m out 0 c).fetched w t d :=
  (dats m out 0 c).before_in_eq_fetched w hw (fun _ => rfl) hclip hafter t d

theorem before0 (c : Dev nD) (t : Fin (cfg0 (F := F)).N) (d) : (dats m out 0 c).before 0 t d = iblk m c 0 t :=
  (before_in m out 0 rfl (fun _ => rfl) (fun _ _ _ => rfl) t d).trans rfl
theorem before1 (c : Dev nD) (t : Fin (cfg0 (F := F)).N) (d) : (dats m out 0 c).before 1 t d = iblk m c 1 t :=
  (before_in m out 1 rfl (fun _ => rfl) (fun _ _ _ => rfl) t d).trans rfl
theorem before2 (c : Dev nD) (t : Fin (cfg0 (F := F)).N) (d) : (dats m out 0 c).before 2 t d = iblk m c 2 t :=
  (before_in m out 2 rfl (fun _ => rfl) (fun _ _ _ => rfl) t d).trans rfl
theorem before3 (c : Dev nD) (t : Fin (cfg0 (F := F)).N) (d) : (dats m out 0 c).before 3 t d = iblk m c 3 t :=
  (before_in m out 3 rfl (fun _ => rfl) (fun _ _ _ => rfl) t d).trans rfl
theorem before4 (c : Dev nD) (t : Fin (cfg0 (F := F)).N) (d) : (dats m out 0 c).before 4 t d = iblk m c 4 t :=
  (before_in m out 4 rfl (fun _ => rfl) (fun _ _ _ => rfl) t d).trans rfl

/-- The pipeline calls the kernel on its staging buffers. -/
theorem row0 (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

/-- One grid point on the pipeline's staging buffers, each input found at its block. -/
theorem sound (c : Dev nD) (t : Fin (cfg0 (F := F)).N) (P : (S1024x128.Idx → Elt F .bf16) → Prop) (O : sProp 𝕄)
    (hP : ∀ (f2 : Bf F c (st0_0 t)) (f3 : Bf F c (st0_1 t)) (f4 : Bf F c (st0_2 t)) (f5 : Bf F c (st0_3 t)) (f6 : Bf F c (st0_4 t)),
      (st0_0 t).view.read (Elt F) f2 = iblk m c 0 t → (st0_1 t).view.read (Elt F) f3 = iblk m c 1 t → (st0_2 t).view.read (Elt F) f4 = iblk m c 2 t →
      (st0_3 t).view.read (Elt F) f5 = iblk m c 3 t → (st0_4 t).view.read (Elt F) f6 = iblk m c 4 t →
      Keeps c (grid0.coords t) (st0_0 t) (st0_1 t) (st0_2 t) (st0_3 t) (st0_4 t) (st0_5 t) f2 f3 f4 f5 f6 P) :
    iprop(Pipeline.ΦA spec0 c ∗ O ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ X, owns (c : Thread nD τ) (st0_5 t) fullShare X))
    ⊢ wp frame (wpE (defs₀ (F := F)) Variants.nat (c : Thread nD τ) none) Set.univ (bodyAt0 t) (fun _ =>
      iprop(Pipeline.ΦA spec0 c ∗ O ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ (∃ X, ⌜P X⌝ ∗ owns (c : Thread nD τ) (st0_5 t) fullShare X))) := by
  simp only [before0, before1, before2, before3, before4]
  iintro ⟨HΦ, Ho, ⟨%d0, H0⟩, ⟨%d1, H1⟩, ⟨%d2, H2⟩, ⟨%d3, H3⟩, ⟨%d4, H4⟩, H5⟩
  iapply (wp_wand_r _ _ _)
  isplitl [HΦ H0 H1 H2 H3 H4 H5]
  · iapply (point c (grid0.coords t) _ _ _ _ _ _ _ _ _ _ _ _ (iblk m c 0 t) (iblk m c 1 t) (iblk m c 2 t) (iblk m c 3 t) (iblk m c 4 t) P hP)
    isplitl [HΦ]; · iexact HΦ
    isplitl [H0]; · iexact H0
    isplitl [H1]; · iexact H1
    isplitl [H2]; · iexact H2
    isplitl [H3]; · iexact H3
    isplitl [H4]; · iexact H4
    iexact H5
  · iintro %u ⟨HΦ, H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The frame's obligation: nothing is said of the output. -/
theorem frame_obligation (c : Dev nD) : BodyObligation (dats m out 0 c) (defs₀ (F := F)) Variants.nat () Set.univ (fun w => w == 5) := fun t => by
  rw [row0, bigSep_W0, bigSep_W0]
  refine (sound m out c t (fun _ => True) ((dats m out 0 c).owesAt () t.castSucc)
    (fun f2 f3 f4 f5 f6 _ _ _ _ _ => keeps_true c _ _ _ _ _ _ _ f2 f3 f4 f5 f6)).trans (wp_mono _ _ _ fun _ => ?_)
  show _ ⊢ iprop(Pipeline.ΦA spec0 c ∗ (dats m out 0 c).owesAt () t.castSucc ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ (∃ X, owns (c : Thread nD τ) (st0_5 t) fullShare X))
  iintro ⟨HΦ, Ho, H0, H1, H2, H3, H4, %X, %_, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists X; iexact H5

/-- The run, nothing said of the output: every input of the call and every other buffer as the host operations left it. -/
theorem run_frame (ρ : Dev nD → PrngReg) :
    θ_run (defs (F := F)) (onTc (τ := τ) (main (F := F))) (s₀ m ρ) fun r =>
      Pipeline.RDat.FramePost (cfg0 (F := F)) (fun c => (dats m out 0 c).toRForget fun w => w == 5) (V m) r ∧ r.2.sem = fun _ => 0 :=
  Pipeline.θ_run_frame_forget_shared cfgs (dats m out) 0 launch₀0 defs₀ Variants.nat (fun w => w == 5) m ρ main
    (fun c => (frame_obligation m out c).loose) (fun _ _ _ => rfl) (fun _ _ => rfl) (V m) (hmain m) (fun _ _ => rfl) (fun _ _ => rfl) _
    (fun _ h => h)

end Cert.Kernel.Attn

end
-- ==== Proof.Ffn.Body.lean ====
module

public import proofs.«01_k».proof.Proof.Gen.Kernel2Ideal.Loops
public import proofs.«01_k».proof.Proof.Gen.Kernel2Ideal.Points
public import Idealize.ShloMosaic.Lib.VecWindow
public import Idealize.ShloMosaic.Lib.WritesUnit
public import Idealize.ShloMosaic.Lib.Pointwise

@[expose] public section

set_option maxRecDepth 16384

noncomputable section

/-! # The feed-forward call: one grid point -/

namespace Cert.Kernel2Ideal.Ffn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer. -/
abbrev Bf (F : FTy → Type) (c : Dev nD) {sp : Space} {S : Shape} {e : EltTy} (M : Memref sig .tc sp S e) : Type := BufTy.Contents (Elt F) M.view.ty

/-- A whole memref's buffer held at contents. -/
abbrev pt (c : Dev nD) {sp : Space} {S : Shape} {e : EltTy} (M : Memref sig .tc sp S e) (f : Bf F c M) : sProp 𝕄 :=
  (M.view.loc (c : Thread nD τ)) ↦[M.view.set]{fullShare} f

/-- A whole memref owned at what it reads is its buffer held at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf F c M, ⌜M.view.read (Elt F) f = X⌝ ∗ pt c M f) := by
  rfl

/-- A returned body meets its postcondition. -/
theorem wp_done (c : Dev nD) (Q : PUnit → sProp 𝕄) : Q PUnit.unit ⊢ wp frame (wpE (defs₀ (F := F)) Variants.nat (c : Thread nD τ) none) Set.univ (Prog.ret PUnit.unit) Q :=
  le_wp_ret _ _ _ _ _

/-! ## What the scratch buffers hold, as functions of the blocks -/

/-- Rows `128 q` to `128 q + 127` of a block of 512. -/
def rowsOf (x : Vec F S512x2048 .f32) (q : Fin 4) : Vec F S128x2048 .f32 :=
  fun j => x (ix2 (n0 := 512) (n1 := 2048) ⟨128 * q.val + (j 0).val, by have := (j 0).isLt; change _ < 128 at this; omega⟩ ⟨(j 1).val, (j 1).isLt⟩)

/-- The normed rows: the sixteen before the block first, then the block's own. -/
def hNew (i : grid0.Coords) (gain scale shift : Vec F S1x2048 .f32) (halo : Vec F S16x2048 .f32) (x : Vec F S512x2048 .f32) : Vec F S528x2048 .bf16 :=
  fun y => if h : (y 0).val < 16 then k0_pay4 (BitVec.ofNat 32 (i 0).val) gain scale shift halo (ix2 (n0 := 16) (n1 := 2048) ⟨(y 0).val, h⟩ ⟨(y 1).val, (y 1).isLt⟩)
    else k0_pay5 gain scale shift (rowsOf x ⟨((y 0).val - 16) / 128, by have := (y 0).isLt; change _ < 528 at this; omega⟩)
      (ix2 (n0 := 128) (n1 := 2048) ⟨((y 0).val - 16) % 128, Nat.mod_lt _ (by decide)⟩ ⟨(y 1).val, (y 1).isLt⟩)

/-- The block's own normed rows. -/
def tail (H : Vec F S528x2048 .bf16) : Vec F S512x2048 .bf16 :=
  fun y => H (ix2 (n0 := 528) (n1 := 2048) ⟨16 + (y 0).val, by have := (y 0).isLt; change _ < 512 at this; omega⟩ ⟨(y 1).val, (y 1).isLt⟩)

/-- The sum so far with one more tile of the hidden width. -/
def stepA (H : Vec F S528x2048 .bf16) (A : Vec F S512x2048 .f32) (wg wv : Vec F S2048x512 .bf16) (cw : Vec F S3x512 .f32) (wd : Vec F S512x2048 .bf16) :
    Vec F S512x2048 .f32 :=
  k0_pay1 (k0_pay8 H wg (tail H) wv cw) A wd

variable (c : Dev nD) (i : grid0.Coords)
  (M2 : Memref sig .tc .vmem S512x2048 .f32) (h2 : M2.IsWhole) (M3 : Memref sig .tc .vmem S16x2048 .f32) (h3 : M3.IsWhole)
  (M4 : Memref sig .tc .vmem S1x2048 .f32) (h4 : M4.IsWhole) (M5 : Memref sig .tc .vmem S1x2048 .f32) (h5 : M5.IsWhole)
  (M6 : Memref sig .tc .vmem S1x2048 .f32) (h6 : M6.IsWhole) (M7 : Memref sig .tc .vmem S1x2048 .f32) (h7 : M7.IsWhole)
  (M8 : Memref sig .tc .vmem S2048x512 .bf16) (h8 : M8.IsWhole) (M9 : Memref sig .tc .vmem S2048x512 .bf16) (h9 : M9.IsWhole)
  (M10 : Memref sig .tc .vmem S3x512 .f32) (h10 : M10.IsWhole) (M11 : Memref sig .tc .vmem S512x2048 .bf16) (h11 : M11.IsWhole)
  (M12 : Memref sig .tc .vmem S512x2048 .f32) (h12 : M12.IsWhole) (M13 : Memref sig .tc .vmem S528x2048 .bf16) (h13 : M13.IsWhole)
  (M14 : Memref sig .tc .vmem S512x2048 .f32) (h14 : M14.IsWhole)
  (x2 : Vec F S512x2048 .f32) (x3 : Vec F S16x2048 .f32) (x4 x5 x6 x7 : Vec F S1x2048 .f32) (x8 x9 : Vec F S2048x512 .bf16)
  (x10 : Vec F S3x512 .f32) (x11 : Vec F S512x2048 .bf16) (x12 : Vec F S512x2048 .f32)

/-- The block's own rows, read back from the scratch buffer. -/
theorem readAt_tail (f : Bf F c M13) :
    View.readAt (Elt F) M13.view (Rect.unit (s := S528x2048) ![16, 0] S512x2048.size inb_S528x2048_S512x2048_16_0).toLoadRect f = tail (M13.view.read (Elt F) f) := by
  funext y
  refine congrArg (M13.view.read (Elt F) f) (funext fun a => Fin.ext ?_)
  match a with
  | ⟨0, _⟩ => show 16 + 1 * (y 0).val = 16 + (y 0).val; omega
  | ⟨1, _⟩ => show 0 + 1 * (y 1).val = (y 1).val; omega

/-- One trip stores the normed rows of its 128. -/
theorem tripL_eq (k1 : k0_cond1 i = 1#1) (g s b : Vec F S1x2048 .f32) (f2 : Bf F c M2) (k : Fin k0_t1_loop.trips) :
    tripL_k0_t1 (F := F) Variants.nat c none i M2 h2 M3 h3 M4 h4 M5 h5 M6 h6 M7 h7 M8 h8 M9 h9 M10 h10 M11 h11 M12 h12 M13 h13 M14 h14
      (BitVec.ofNat 32 (i 0).val) k1 g s b f2 k
    = [⟨Rect.unit (s := S528x2048) (k0_off2 k) S128x2048.size (k0_off2_inb i k k1), k0_pay5 g s b
        (View.readAt (Elt F) M2.view (Rect.unit (s := S512x2048) (k0_off1 k) S128x2048.size (k0_off1_inb i k k1)).toLoadRect f2)⟩] := by
  unfold tripL_k0_t1 trip_k0_t1
  rfl

/-- What a trip loads are its rows of the block. -/
theorem readAt_rows (k1 : k0_cond1 i = 1#1) (f2 : Bf F c M2) (k : Fin k0_t1_loop.trips) (hk : k.val < 4) :
    View.readAt (Elt F) M2.view (Rect.unit (s := S512x2048) (k0_off1 k) S128x2048.size (k0_off1_inb i k k1)).toLoadRect f2
      = rowsOf (M2.view.read (Elt F) f2) ⟨k.val, hk⟩ := by
  have e := k0_off1_eq k
  funext y
  refine congrArg (M2.view.read (Elt F) f2) (funext fun a => Fin.ext ?_)
  match a with
  | ⟨0, _⟩ =>
    show k0_off1 k 0 + 1 * (y 0).val = 128 * k.val + (y 0).val
    have e0 : k0_off1 k 0 = 128 * k.val := congrFun e 0
    omega
  | ⟨1, _⟩ =>
    show k0_off1 k 1 + 1 * (y 1).val = (y 1).val
    have e1 : k0_off1 k 1 = 0 := congrFun e 1
    omega

/-- After `n` trips the first `128 n` rows of the block stand normed, and every other row as before the loop. -/
theorem read_trips (k1 : k0_cond1 i = 1#1) (g s b : Vec F S1x2048 .f32) (halo : Vec F S16x2048 .f32) (f2 : Bf F c M2) (f13 : Bf F c M13)
    (L : List (View.Piece (Elt F) S528x2048 .bf16)) (y : S528x2048.Idx) : ∀ n : ℕ, n ≤ 4 →
    M13.view.read (Elt F) (M13.view.writes (Elt F) f13 (pb_k0_t1 (F := F) Variants.nat c none i M2 h2 M3 h3 M4 h4 M5 h5 M6 h6 M7 h7 M8 h8 M9 h9 M10 h10
      M11 h11 M12 h12 M13 h13 M14 h14 (BitVec.ofNat 32 (i 0).val) k1 g s b f2 n ++ L)) y
    = if 16 ≤ (y 0).val ∧ (y 0).val < 16 + 128 * n then hNew i g s b halo (M2.view.read (Elt F) f2) y else M13.view.read (Elt F) (M13.view.writes (Elt F) f13 L) y
  | 0, _ => by rw [if_neg (by omega)]; rfl
  | n + 1, hn => by
    have ht : n < k0_t1_loop.trips := lt_of_lt_of_eq (show n < 4 by omega) (by decide +kernel)
    have hs := pb_k0_t1_succ (F := F) Variants.nat c none i M2 h2 M3 h3 M4 h4 M5 h5 M6 h6 M7 h7 M8 h8 M9 h9 M10 h10 M11 h11 M12 h12 M13 h13 M14 h14
      (BitVec.ofNat 32 (i 0).val) k1 g s b f2 ⟨n, ht⟩
    rw [tripL_eq, readAt_rows c i M2 k1 f2 ⟨n, ht⟩ (show n < 4 by omega)] at hs
    have hs' := congrArg (fun l => M13.view.read (Elt F) (M13.view.writes (Elt F) f13 (l ++ L)) y) hs
    refine hs'.trans ?_
    have ih := read_trips k1 g s b halo f2 f13 L y n (by omega)
    by_cases hy : 128 * n + 16 ≤ (y 0).val ∧ (y 0).val < 128 * n + 16 + 128
    · rw [if_pos (by omega)]
      refine (View.read_writes_cons_rows_of_mem (d := S528x2048.size) M13.view f13 (k0_off2_inb i ⟨n, ht⟩ k1) _ _ y
        (ix2 (n0 := 128) (n1 := 2048) ⟨((y 0).val - 16) % 128, Nat.mod_lt _ (by decide)⟩ ⟨(y 1).val, (y 1).isLt⟩) (k0_off2_eq ⟨n, ht⟩) ?_ rfl).trans ?_
      · show (y 0).val = 128 * n + 16 + ((y 0).val - 16) % 128; omega
      · unfold hNew
        rw [dif_neg (by omega)]
        have e : ((y 0).val - 16) / 128 = n := by omega
        simp only [e]
    · refine (View.read_writes_cons_rows_of_not_mem (d := S528x2048.size) (W := 128) M13.view f13 (k0_off2_inb i ⟨n, ht⟩ k1) _ _ y (k0_off2_eq ⟨n, ht⟩) rfl ?_).trans ?_
      · show (y 0).val < 128 * n + 16 ∨ 128 * n + 16 + 128 ≤ (y 0).val; omega
      · refine ih.trans ?_
        by_cases h : 16 ≤ (y 0).val ∧ (y 0).val < 16 + 128 * n
        · rw [if_pos h, if_pos (by omega)]
        · rw [if_neg h, if_neg (by omega)]

/-- After the loop the scratch buffer holds the normed rows. -/
theorem read_h (k1 : k0_cond1 i = 1#1) (g s b : Vec F S1x2048 .f32) (halo : Vec F S16x2048 .f32) (f2 : Bf F c M2) (f13 : Bf F c M13) :
    M13.view.read (Elt F) (M13.view.writes (Elt F) f13 (pb_k0_t1 (F := F) Variants.nat c none i M2 h2 M3 h3 M4 h4 M5 h5 M6 h6 M7 h7 M8 h8 M9 h9 M10 h10
      M11 h11 M12 h12 M13 h13 M14 h14 (BitVec.ofNat 32 (i 0).val) k1 g s b f2 (Scf.trips k0_t1_loop.lb k0_t1_loop.ub k0_t1_loop.st)
      ++ [⟨Rect.unit (s := S528x2048) ![0, 0] S16x2048.size inb_S528x2048_S16x2048_0_0, k0_pay4 (BitVec.ofNat 32 (i 0).val) g s b halo⟩]))
    = hNew i g s b halo (M2.view.read (Elt F) f2) := by
  funext y
  have h4 : Scf.trips k0_t1_loop.lb k0_t1_loop.ub k0_t1_loop.st = 4 := by decide +kernel
  rw [h4]
  refine (read_trips c i M2 h2 M3 h3 M4 _ M5 h5 M6 h6 M7 h7 M8 h8 M9 h9 M10 h10 M11 h11 M12 h12 M13 h13 M14 h14 k1 g s b halo f2 f13 _ y 4 le_rfl).trans ?_
  have hy : (y 0).val < 528 := (y 0).isLt
  by_cases h : (y 0).val < 16
  · rw [if_neg (by omega)]
    refine (View.read_writes_cons_rows_of_mem (d := S528x2048.size) M13.view f13 inb_S528x2048_S16x2048_0_0 _ _ y
        (ix2 (n0 := 16) (n1 := 2048) ⟨(y 0).val, h⟩ ⟨(y 1).val, (y 1).isLt⟩) rfl ?_ rfl).trans ?_
    · show (y 0).val = 0 + (y 0).val; omega
    · unfold hNew; rw [dif_pos h]
  · rw [if_pos (by omega)]

set_option maxHeartbeats 4000000 in
/-- At the first tile the normed rows are written and the sum starts from zero. -/
theorem first (k1 : k0_cond1 i = 1#1) (k2 : k0_cond2 i ≠ 1#1) :
    (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare x12 ∗ (∃ X, owns (c : Thread nD τ) M13 fullShare X) ∗ (∃ X, owns (c : Thread nD τ) M14 fullShare X)) : sProp 𝕄)
    ⊢ wp frame (wpE (defs₀ (F := F)) Variants.nat (c : Thread nD τ) none) Set.univ
        (cc0_convffn i M2 h2 M3 h3 M4 h4 M5 h5 M6 h6 M7 h7 M8 h8 M9 h9 M10 h10 M11 h11 M12 h12 M13 h13 M14 h14)
        (fun _ => iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare x12 ∗ owns (c : Thread nD τ) M13 fullShare (hNew i x4 x5 x6 x3 x2)
      ∗ owns (c : Thread nD τ) M14 fullShare (stepA (hNew i x4 x5 x6 x3 x2) (k0_pay7 k0_pay6) x8 x9 x10 x11))) := by
  simp only [owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%X13, %f13, %e13, H13⟩, ⟨%X14, %f14, %e14, H14⟩⟩
  rw [cc0_convffn_eq_skeleton]
  unfold cc0_convffn_skel
  sl_exec_parts
  iapply (wp_done c _)
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists _; isplitr; rotate_left
    · iexact H13
    · ipureintro
      simp -proj only [View.readAt_full, e3, e4, e5, e6]
      rw [← e2]; exact read_h c i M2 h2 M3 h3 M4 h4 M5 h5 M6 h6 M7 h7 M8 h8 M9 h9 M10 h10 M11 h11 M12 h12 M13 h13 M14 h14 k1 x4 x5 x6 x3 f2 f13
  iexists _; isplitr; rotate_left
  · iexact H14
  · ipureintro
    refine (View.read_writes_full _ _ _ _ _).trans ?_
    unfold first.sl.r first.sl.v3 first.sl.v7 first.sl.v36 first.sl.H14_1
    simp -proj only [View.readAt_full, View.readCov_full, readAt_tail, e3, e4, e5, e6, e8, e9, e10, e11]
    rw [readAt_tail c M13, read_h c i M2 h2 M3 h3 M4 h4 M5 h5 M6 h6 M7 h7 M8 h8 M9 h9 M10 h10 M11 h11 M12 h12 M13 h13 M14 h14 k1 x4 x5 x6 x3 f2 f13, e2]; rfl

set_option maxHeartbeats 4000000 in
/-- At a middle tile the sum takes the tile. -/
theorem middle (x13 : Vec F S528x2048 .bf16) (x14 : Vec F S512x2048 .f32) (k1 : k0_cond1 i ≠ 1#1) (k2 : k0_cond2 i ≠ 1#1) :
    (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare x12 ∗ owns (c : Thread nD τ) M13 fullShare x13 ∗ owns (c : Thread nD τ) M14 fullShare x14) : sProp 𝕄)
    ⊢ wp frame (wpE (defs₀ (F := F)) Variants.nat (c : Thread nD τ) none) Set.univ
        (cc0_convffn i M2 h2 M3 h3 M4 h4 M5 h5 M6 h6 M7 h7 M8 h8 M9 h9 M10 h10 M11 h11 M12 h12 M13 h13 M14 h14)
        (fun _ => iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare x12 ∗ owns (c : Thread nD τ) M13 fullShare x13
      ∗ owns (c : Thread nD τ) M14 fullShare (stepA x13 x14 x8 x9 x10 x11))) := by
  simp only [owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩
  rw [cc0_convffn_eq_skeleton]
  unfold cc0_convffn_skel
  sl_exec_parts
  iapply (wp_done c _)
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  iexists _; isplitr; rotate_left
  · iexact H14
  · ipureintro
    refine (View.read_writes_full _ _ _ _ _).trans ?_
    unfold middle.sl.r
    simp -proj only [View.readAt_full, readAt_tail, e8, e9, e10, e11, e13, e14]
    rfl

set_option maxHeartbeats 4000000 in
/-- At the last tile the sum takes the tile, and the block is written. -/
theorem last (x13 : Vec F S528x2048 .bf16) (x14 : Vec F S512x2048 .f32) (k1 : k0_cond1 i ≠ 1#1) (k2 : k0_cond2 i = 1#1) :
    (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare x12 ∗ owns (c : Thread nD τ) M13 fullShare x13 ∗ owns (c : Thread nD τ) M14 fullShare x14) : sProp 𝕄)
    ⊢ wp frame (wpE (defs₀ (F := F)) Variants.nat (c : Thread nD τ) none) Set.univ
        (cc0_convffn i M2 h2 M3 h3 M4 h4 M5 h5 M6 h6 M7 h7 M8 h8 M9 h9 M10 h10 M11 h11 M12 h12 M13 h13 M14 h14)
        (fun _ => iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11
      ∗ owns (c : Thread nD τ) M12 fullShare (k0_pay2 x2 x7 (stepA x13 x14 x8 x9 x10 x11)) ∗ owns (c : Thread nD τ) M13 fullShare x13
      ∗ owns (c : Thread nD τ) M14 fullShare (stepA x13 x14 x8 x9 x10 x11))) := by
  simp only [owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩
  rw [cc0_convffn_eq_skeleton]
  unfold cc0_convffn_skel
  sl_exec_parts
  iapply (wp_done c _)
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists _; isplitr; rotate_left
    · iexact H12
    · ipureintro
      refine (View.read_writes_full _ _ _ _ _).trans ?_
      unfold last.sl.v49 last.sl.H14_1 last.sl.r
      simp -proj only [View.readAt_full, View.readCov_full, readAt_tail, e2, e7, e8, e9, e10, e11, e13, e14]
      rfl
  isplitl [H13]
  · iexists f13; isplitr; · ipureintro; exact e13
    iexact H13
  iexists _; isplitr; rotate_left
  · iexact H14
  · ipureintro
    unfold last.sl.H14_1 last.sl.r
    refine (View.read_writes_full _ _ _ _ _).trans ?_
    simp -proj only [View.readAt_full, readAt_tail, e8, e9, e10, e11, e13, e14]
    rfl

end Cert.Kernel2Ideal.Ffn

end
-- ==== Proof.Ffn.Launch.lean ====
module

public import proofs.«01_k».proof.Proof.Ffn.Body
public import proofs.«01_k».proof.Proof.Gen.Kernel2Ideal.Launch
public import Idealize.ShloMosaic.Lib.Pipeline.FrameBody

@[expose] public section

set_option maxRecDepth 16384

noncomputable section

/-! # The feed-forward call: its run -/

namespace Cert.Kernel2Ideal.Ffn

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The host operations before the call -/

/-- The host operations, in their one stretch. -/
abbrev hostOps : List (List (HloOp τ sig (Elt F))) := [hostOps0]

theorem hostOps_fresh : (hostOps : List (List (HloOp τ sig (Elt F)))).Forall fun ops => ops.Forall fun op => op.fresh = ∅ := by
  simp only [List.Forall]; repeat' constructor

theorem hostOps_sub : (hostOps : List (List (HloOp τ sig (Elt F)))).Forall fun ops => ops.Forall fun op => op.bufs ⊆ StableHlo.tcRefs τ sig := by
  simp only [List.Forall]; exact hostOps0_sub

variable (m : (ℓ : Loc nD τ sig) → Buf (Elt F) ℓ)

/-- The buffers when the call is entered. -/
abbrev V (c : Dev nD) (b : Ref sig .tc) : Buf (Elt F) ((c : Thread nD τ).loc b) :=
  StableHlo.after (hostOps (F := F)).flatten (fun b => m (c, b)) b

theorem hmain : Pipeline.HMain (Ix := Unit) (Name := ℕ) (U := UR sig nD τ) (Lvl := ℕ) cfgs 0 (defs₀ (F := F)) Variants.nat m (main (F := F)) (V m) :=
  Pipeline.hmain_prefixes cfgs 0 defs₀ Variants.nat m main hostOps hostOps_sub hostOps_fresh main_chain

/-! ## The state between points -/

/-- Window `w`'s block at point `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The point of number `n`. -/
def at_ (n : ℕ) : Fin cfg0.N := ⟨n % 352, lt_of_lt_of_eq (Nat.mod_lt _ (by decide)) N_0.symm⟩

theorem at_val (t : Fin cfg0.N) : at_ t.val = t :=
  Fin.ext (Nat.mod_eq_of_lt (lt_of_lt_of_eq t.isLt N_0))

/-- The normed rows of row block `b`. -/
def hOf (c : Dev nD) (b : ℕ) : Vec F S528x2048 .bf16 :=
  hNew (grid0.coords (at_ (11 * b))) (iblk m c 2 (at_ (11 * b))) (iblk m c 3 (at_ (11 * b))) (iblk m c 4 (at_ (11 * b)))
    (iblk m c 1 (at_ (11 * b))) (iblk m c 0 (at_ (11 * b)))

/-- The sum over the first `f` tiles at row block `b`. -/
def accOf (c : Dev nD) (b : ℕ) : ℕ → Vec F S512x2048 .f32
  | 0 => k0_pay7 k0_pay6
  | f + 1 => stepA (hOf m c b) (accOf c b f) (iblk m c 6 (at_ (11 * b + f))) (iblk m c 7 (at_ (11 * b + f))) (iblk m c 8 (at_ (11 * b + f)))
      (iblk m c 9 (at_ (11 * b + f)))

/-- The block written at the last tile of a row block. -/
def outOf (c : Dev nD) (t : Fin cfg0.N) : Vec F S512x2048 .f32 :=
  k0_pay2 (iblk m c 0 t) (iblk m c 5 t) (accOf m c (t.val / 11) 11)

/-- Between points the scratch buffers hold the normed rows and the sum so far; between row blocks anything. -/
def Phi (c : Dev nD) (n : ℕ) : sProp 𝕄 :=
  if n % 11 = 0 then Pipeline.ΦA spec0 c
  else iprop((owns (c : Thread nD τ) (Memref.whole cc0_scratch0) fullShare (hOf m c (n / 11))
    ∗ owns (c : Thread nD τ) (Memref.whole cc0_scratch1) fullShare (accOf m c (n / 11) (n % 11))) ∗ ∃ r, prngReg c r)

/-- The pipeline's data: every input left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outOf m c t
  Φ t := Phi m c t.val
  q w := Pipeline.shareOf spec0 w
  owed _ := 0

theorem before_in {c : Dev nD} (w : Fin cfg0.W) (hw : (cfg0.win w).isOut = false) (hi : ∀ i, cfg0.idle w i = false)
    (hafter : ∀ t, (cfg0.win w).cut (cfg0.grid.coords t) ((dats m 0 c).after w t) = (dats m 0 c).blockOf w t)
    (hclip : ∀ t t' : Fin cfg0.N, (cfg0.win w).index t = (cfg0.win w).index t' →
      (cfg0.win w).clip (cfg0.grid.coords t) = (cfg0.win w).clip (cfg0.grid.coords t'))
    (t : Fin cfg0.N) (d) : (dats m 0 c).before w t d = (dats m 0 c).fetched w t d :=
  (dats m 0 c).before_in_eq_fetched w hw hi hclip hafter t d

theorem before0 (c : Dev nD) (t : Fin cfg0.N) (d) : (dats m 0 c).before 0 t d = iblk m c 0 t :=
  (before_in m 0 rfl (fun _ => rfl) (fun _ => rfl) (fun _ _ _ => rfl) t d).trans rfl
theorem before1 (c : Dev nD) (t : Fin cfg0.N) (d) : (dats m 0 c).before 1 t d = iblk m c 1 t :=
  (before_in m 1 rfl (fun _ => rfl) (fun _ => rfl) (fun _ _ _ => rfl) t d).trans rfl
theorem before2 (c : Dev nD) (t : Fin cfg0.N) (d) : (dats m 0 c).before 2 t d = iblk m c 2 t :=
  (before_in m 2 rfl (fun _ => rfl) (fun _ => rfl) (fun _ _ _ => rfl) t d).trans rfl
theorem before3 (c : Dev nD) (t : Fin cfg0.N) (d) : (dats m 0 c).before 3 t d = iblk m c 3 t :=
  (before_in m 3 rfl (fun _ => rfl) (fun _ => rfl) (fun _ _ _ => rfl) t d).trans rfl
theorem before4 (c : Dev nD) (t : Fin cfg0.N) (d) : (dats m 0 c).before 4 t d = iblk m c 4 t :=
  (before_in m 4 rfl (fun _ => rfl) (fun _ => rfl) (fun _ _ _ => rfl) t d).trans rfl
theorem before5 (c : Dev nD) (t : Fin cfg0.N) (d) : (dats m 0 c).before 5 t d = iblk m c 5 t :=
  (before_in m 5 rfl (fun _ => rfl) (fun _ => rfl) (fun _ _ _ => rfl) t d).trans rfl
theorem before6 (c : Dev nD) (t : Fin cfg0.N) (d) : (dats m 0 c).before 6 t d = iblk m c 6 t :=
  (before_in m 6 rfl (fun _ => rfl) (fun _ => rfl) (fun _ _ _ => rfl) t d).trans rfl
theorem before7 (c : Dev nD) (t : Fin cfg0.N) (d) : (dats m 0 c).before 7 t d = iblk m c 7 t :=
  (before_in m 7 rfl (fun _ => rfl) (fun _ => rfl) (fun _ _ _ => rfl) t d).trans rfl
theorem before8 (c : Dev nD) (t : Fin cfg0.N) (d) : (dats m 0 c).before 8 t d = iblk m c 8 t :=
  (before_in m 8 rfl (fun _ => rfl) (fun _ => rfl) (fun _ _ _ => rfl) t d).trans rfl
theorem before9 (c : Dev nD) (t : Fin cfg0.N) (d) : (dats m 0 c).before 9 t d = iblk m c 9 t :=
  (before_in m 9 rfl (fun _ => rfl) (fun _ => rfl) (fun _ _ _ => rfl) t d).trans rfl

/-- The pipeline calls the kernel on its staging buffers. -/
theorem row0 (t : Fin cfg0.N) :
    (defs₀ (F := F)) .tc cfg0.body (cfg0.bodyArgs t (cfg0.slots t)) = bodyAt0 t := by
  unfold defs₀; rw [Defs.onTc_tc]

theorem cond1_iff : ∀ t : Fin grid0.N, k0_cond1 (grid0.coords t) = 1#1 ↔ t.val % 11 = 0 := by decide +kernel

theorem cond2_iff : ∀ t : Fin grid0.N, k0_cond2 (grid0.coords t) = 1#1 ↔ t.val % 11 = 10 := by decide +kernel

/-- A whole buffer held at contents is its memref owned at what it reads. -/
theorem give (c : Dev nD) {sp : Space} {S : Shape} {e : EltTy} (M : Memref sig .tc sp S e) (h : M.IsWhole) (f : Bf F c M) :
    ((M.view.loc (c : Thread nD τ)) ↦{fullShare} f : sProp 𝕄) ⊢ iprop(∃ X, owns (c : Thread nD τ) M fullShare X) := by
  unfold owns; rw [h.set_eq_univ]
  iintro H
  iexists _, f
  isplitr
  · ipureintro; exact rfl
  · iexact H

/-- A memref owned is its whole buffer held at some contents. -/
theorem take (c : Dev nD) {sp : Space} {S : Shape} {e : EltTy} (M : Memref sig .tc sp S e) (h : M.IsWhole) (X : S.Idx → Elt F e) :
    (owns (c : Thread nD τ) M fullShare X : sProp 𝕄) ⊢ iprop(∃ f : Bf F c M, (M.view.loc (c : Thread nD τ)) ↦{fullShare} f) := by
  unfold owns; rw [h.set_eq_univ]
  iintro ⟨%f, %e, H⟩
  iexists f
  iexact H

/-- Before a row block: both scratch buffers at anything. -/
theorem open_any (c : Dev nD) : (Pipeline.ΦA spec0 c : sProp 𝕄) ⊢ iprop((∃ X, owns (c : Thread nD τ) (Memref.whole cc0_scratch0) fullShare X)
    ∗ (∃ X, owns (c : Thread nD τ) (Memref.whole cc0_scratch1) fullShare X) ∗ ∃ r, prngReg c r) := by
  unfold Pipeline.ΦA
  rw [scopedRest0_eq]
  iintro ⟨⟨⟨%A, HA⟩, ⟨%R, HR⟩⟩, Hg⟩
  isplitl [HA]
  · iapply (give c (Memref.whole cc0_scratch0) (Memref.isWhole_whole _) A); iexact HA
  isplitl [HR]
  · iapply (give c (Memref.whole cc0_scratch1) (Memref.isWhole_whole _) R); iexact HR
  iexact Hg

/-- After a row block what the scratch buffers hold is let go. -/
theorem close_any (c : Dev nD) (X : Vec F S528x2048 .bf16) (Y : Vec F S512x2048 .f32) :
    (iprop((owns (c : Thread nD τ) (Memref.whole cc0_scratch0) fullShare X ∗ owns (c : Thread nD τ) (Memref.whole cc0_scratch1) fullShare Y) ∗ ∃ r, prngReg c r) : sProp 𝕄)
    ⊢ Pipeline.ΦA spec0 c := by
  unfold Pipeline.ΦA
  rw [scopedRest0_eq]
  iintro ⟨⟨HA, HR⟩, Hg⟩
  isplitl [HA HR]
  · isplitl [HA]
    · iapply (take c (Memref.whole cc0_scratch0) (Memref.isWhole_whole _) X); iexact HA
    · iapply (take c (Memref.whole cc0_scratch1) (Memref.isWhole_whole _) Y); iexact HR
  · iexact Hg

set_option maxHeartbeats 1000000 in
/-- The first tile of a row block. -/
theorem sound_first (c : Dev nD) (t : Fin cfg0.N) (h : t.val % 11 = 0) (O : sProp 𝕄) (x : Vec F S512x2048 .f32) :
    (iprop(Phi m c t.val ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare x) : sProp 𝕄)
    ⊢ wp frame (wpE (defs₀ (F := F)) Variants.nat (c : Thread nD τ) none) Set.univ (bodyAt0 t) (fun _ =>
      iprop(Phi m c (t.val + 1) ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare x)) := by
  unfold Phi
  rw [if_pos h, if_neg (by omega)]
  have e : (t.val + 1) / 11 = t.val / 11 := by omega
  have e' : (t.val + 1) % 11 = 0 + 1 := by omega
  have eb : 11 * (t.val / 11) = t.val := by omega
  rw [e, e']
  have hh : hOf m c (t.val / 11) = hNew (grid0.coords t) (iblk m c 2 t) (iblk m c 3 t) (iblk m c 4 t) (iblk m c 1 t) (iblk m c 0 t) := by
    unfold hOf; rw [eb, at_val]
  have ha : accOf m c (t.val / 11) (0 + 1) = stepA (hOf m c (t.val / 11)) (k0_pay7 k0_pay6) (iblk m c 6 t) (iblk m c 7 t) (iblk m c 8 t) (iblk m c 9 t) := by
    show stepA _ (k0_pay7 k0_pay6) (iblk m c 6 (at_ (11 * (t.val / 11) + 0))) (iblk m c 7 (at_ (11 * (t.val / 11) + 0))) (iblk m c 8 (at_ (11 * (t.val / 11) + 0))) (iblk m c 9 (at_ (11 * (t.val / 11) + 0))) = _
    rw [Nat.add_zero, eb, at_val]
  rw [ha, hh]
  refine (sep_mono_left (open_any c)).trans ?_
  iintro ⟨⟨HH, HA, Hg⟩, Ho, H0, H1, H2, H3, H4, H5, H6, H7, H8, H9, H10⟩
  iapply (wp_wand_r _ _ _)
  isplitl [H0 H1 H2 H3 H4 H5 H6 H7 H8 H9 H10 HH HA]
  · iapply (first c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) x
      ((cond1_iff t).mpr h) (fun k => absurd ((cond2_iff t).mp k) (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HH]; · iexact HH
    iexact HA
  · iintro %u ⟨H0, H1, H2, H3, H4, H5, H6, H7, H8, H9, H10, HH, HA⟩
    isplitl [HH HA Hg]
    · isplitl [HH HA]
      · isplitl [HH]; · iexact HH
        iexact HA
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 1000000 in
/-- A middle tile. -/
theorem sound_middle (c : Dev nD) (t : Fin cfg0.N) (h0 : t.val % 11 ≠ 0) (h1 : t.val % 11 ≠ 10) (O : sProp 𝕄) (x : Vec F S512x2048 .f32) :
    (iprop(Phi m c t.val ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare x) : sProp 𝕄)
    ⊢ wp frame (wpE (defs₀ (F := F)) Variants.nat (c : Thread nD τ) none) Set.univ (bodyAt0 t) (fun _ =>
      iprop(Phi m c (t.val + 1) ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare x)) := by
  unfold Phi
  rw [if_neg h0, if_neg (by omega)]
  have e : (t.val + 1) / 11 = t.val / 11 := by omega
  have e' : (t.val + 1) % 11 = t.val % 11 + 1 := by omega
  rw [e, e']
  have eb : 11 * (t.val / 11) + t.val % 11 = t.val := by omega
  have ha : accOf m c (t.val / 11) (t.val % 11 + 1) = stepA (hOf m c (t.val / 11)) (accOf m c (t.val / 11) (t.val % 11)) (iblk m c 6 t) (iblk m c 7 t) (iblk m c 8 t) (iblk m c 9 t) := by
    show stepA _ (accOf m c (t.val / 11) (t.val % 11)) (iblk m c 6 (at_ (11 * (t.val / 11) + t.val % 11))) (iblk m c 7 (at_ (11 * (t.val / 11) + t.val % 11))) (iblk m c 8 (at_ (11 * (t.val / 11) + t.val % 11))) (iblk m c 9 (at_ (11 * (t.val / 11) + t.val % 11))) = _
    rw [eb, at_val]
  rw [ha]
  iintro ⟨⟨⟨HH, HA⟩, Hg⟩, Ho, H0, H1, H2, H3, H4, H5, H6, H7, H8, H9, H10⟩
  iapply (wp_wand_r _ _ _)
  isplitl [H0 H1 H2 H3 H4 H5 H6 H7 H8 H9 H10 HH HA]
  · iapply (middle c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) x (hOf m c (t.val / 11)) (accOf m c (t.val / 11) (t.val % 11))
      (fun k => h0 ((cond1_iff t).mp k)) (fun k => h1 ((cond2_iff t).mp k)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HH]; · iexact HH
    iexact HA
  · iintro %u ⟨H0, H1, H2, H3, H4, H5, H6, H7, H8, H9, H10, HH, HA⟩
    isplitl [HH HA Hg]
    · isplitl [HH HA]
      · isplitl [HH]; · iexact HH
        iexact HA
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

set_option maxHeartbeats 1000000 in
/-- The last tile of a row block. -/
theorem sound_last (c : Dev nD) (t : Fin cfg0.N) (h : t.val % 11 = 10) (O : sProp 𝕄) (x : Vec F S512x2048 .f32) :
    (iprop(Phi m c t.val ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare x) : sProp 𝕄)
    ⊢ wp frame (wpE (defs₀ (F := F)) Variants.nat (c : Thread nD τ) none) Set.univ (bodyAt0 t) (fun _ =>
      iprop(Phi m c (t.val + 1) ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (outOf m c t))) := by
  unfold Phi outOf
  rw [if_neg (by omega), if_pos (by omega)]
  have eb : 11 * (t.val / 11) + t.val % 11 = t.val := by omega
  have ha : accOf m c (t.val / 11) (t.val % 11 + 1) = stepA (hOf m c (t.val / 11)) (accOf m c (t.val / 11) (t.val % 11)) (iblk m c 6 t) (iblk m c 7 t) (iblk m c 8 t) (iblk m c 9 t) := by
    show stepA _ (accOf m c (t.val / 11) (t.val % 11)) (iblk m c 6 (at_ (11 * (t.val / 11) + t.val % 11))) (iblk m c 7 (at_ (11 * (t.val / 11) + t.val % 11))) (iblk m c 8 (at_ (11 * (t.val / 11) + t.val % 11))) (iblk m c 9 (at_ (11 * (t.val / 11) + t.val % 11))) = _
    rw [eb, at_val]
  rw [h] at ha
  rw [h, ha]
  iintro ⟨⟨⟨HH, HA⟩, Hg⟩, Ho, H0, H1, H2, H3, H4, H5, H6, H7, H8, H9, H10⟩
  iapply (wp_wand_r _ _ _)
  isplitl [H0 H1 H2 H3 H4 H5 H6 H7 H8 H9 H10 HH HA]
  · iapply (last c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) x (hOf m c (t.val / 11)) (accOf m c (t.val / 11) 10)
      (fun k => absurd ((cond1_iff t).mp k) (by omega)) ((cond2_iff t).mpr h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HH]; · iexact HH
    iexact HA
  · iintro %u ⟨H0, H1, H2, H3, H4, H5, H6, H7, H8, H9, H10, HH, HA⟩
    isplitl [HH HA Hg]
    · iapply (close_any c _ _)
      isplitl [HH HA]
      · isplitl [HH]; · iexact HH
        iexact HA
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The output's buffer as a point leaves it: written at the last tile, and untouched at the others. -/
def Left (c : Dev nD) (t : Fin cfg0.N) : sProp 𝕄 :=
  match cfg0.idle 10 (cfg0.grid.coords t) with
  | true =>
    match (cfg0.win 10).flush t with
    | false => iprop(∃ d, owns (c : Thread nD τ) (st0_10 t) fullShare ((dats m 0 c).before 10 t d))
    | true => owns (c : Thread nD τ) (st0_10 t) fullShare (outOf m c t)
  | false => owns (c : Thread nD τ) (st0_10 t) fullShare (outOf m c t)

theorem left_last (c : Dev nD) (t : Fin cfg0.N) (h : t.val % 11 = 10) :
    Left m c t = owns (c : Thread nD τ) (st0_10 t) fullShare (outOf m c t) := by
  have hi : cfg0.idle 10 (cfg0.grid.coords t) = false := by
    show (!(k0_cond2 (grid0.coords t) == 1#1)) = false
    rw [(cond2_iff t).mpr h]; rfl
  unfold Left; rw [hi]

theorem left_other (c : Dev nD) (t : Fin cfg0.N) (h : t.val % 11 ≠ 10) :
    Left m c t = iprop(∃ d, owns (c : Thread nD τ) (st0_10 t) fullShare ((dats m 0 c).before 10 t d)) := by
  have hi : cfg0.idle 10 (cfg0.grid.coords t) = true := by
    show (!(k0_cond2 (grid0.coords t) == 1#1)) = true
    rw [beq_eq_false_iff_ne.mpr fun k => h ((cond2_iff t).mp k)]; rfl
  have hf : (cfg0.win 10).flush t = false := Bool.eq_false_iff.mpr fun k => h ((flush0_10 t).mp k)
  unfold Left; rw [hi, hf]

/-- Any grid point on the pipeline's staging buffers. -/
theorem sound (c : Dev nD) (t : Fin cfg0.N) (O : sProp 𝕄) :
    (iprop(Phi m c t.val ∗ O
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))) : sProp 𝕄)
    ⊢ wp frame (wpE (defs₀ (F := F)) Variants.nat (c : Thread nD τ) none) Set.univ (bodyAt0 t) (fun _ =>
      iprop(Phi m c (t.val + 1) ∗ O
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ owns (c : Thread nD τ) (st0_9 t) fullShare (iblk m c 9 t)
      ∗ Left m c t)) := by
  simp only [before0, before1, before2, before3, before4, before5, before6, before7, before8, before9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r _ _ _ (Q := fun _ => iprop(Phi m c (t.val + 1) ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (if t.val % 11 = 10 then outOf m c t else (dats m 0 c).before 10 t d10))))
  isplitl [HΦ Ho H0 H1 H2 H3 H4 H5 H6 H7 H8 H9 H10]
  · by_cases h : t.val % 11 = 0
    · rw [if_neg (by omega)]
      iapply (sound_first m c t h O ((dats m 0 c).before 10 t d10))
      iframe
    · by_cases h1 : t.val % 11 = 10
      · rw [if_pos h1]
        iapply (sound_last m c t h1 O ((dats m 0 c).before 10 t d10))
        iframe
      · rw [if_neg h1]
        iapply (sound_middle m c t h h1 O ((dats m 0 c).before 10 t d10))
        iframe
  · iintro %u ⟨HΦ, Ho, H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    by_cases h1 : t.val % 11 = 10
    · rw [if_pos h1, left_last m c t h1]; iexact H10
    · rw [if_neg h1, left_other m c t h1]; iexists _; iexact H10

/-- The pipeline's obligation at every point. -/
theorem obligation (c : Dev nD) : BodyObligation (dats m 0 c) (defs₀ (F := F)) Variants.nat () Set.univ := fun t => by
  rw [row0, bigSep_W0, bigSep_W0]
  exact sound m c t ((dats m 0 c).owesAt () t.castSucc)

/-- The run: every input of the call and every other buffer as the host operations left it, and the output array the
    blocks written side by side. -/
theorem run (ρ : Dev nD → PrngReg) :
    θ_run (defs (F := F)) (onTc (τ := τ) (main (F := F))) (s₀ m ρ) fun r =>
      Pipeline.FramePost cfgs (dats m) 0 (V m) r ∧ r.2.sem = fun _ => 0 :=
  Pipeline.θ_run_frame_track_shared cfgs (dats m) 0 launch₀0 defs₀ Variants.nat m ρ main
    (fun c => (obligation m c).loose) (fun _ _ _ => rfl) (fun _ _ => rfl) (V m) (hmain m) (fun _ _ => rfl)
    (fun c => by show _ ⊢ Phi m c 0; unfold Phi; rw [if_pos rfl])
    (fun c => by show Phi m c (Fin.last cfg0.N).val ⊢ _; unfold Phi; rw [if_pos (by show grid0.N % 11 = 0; rw [N_0])]) _
    (fun _ h => h)

end Cert.Kernel2Ideal.Ffn

end
-- ==== Proof.Ffn.Args.lean ====
module

public import proofs.«01_k».proof.Proof.Ffn.Launch
public import Idealize.ShloMosaic.Lib.StableHlo.Run

@[expose] public section

set_option maxRecDepth 16384

noncomputable section

/-! # The run's frame -/

namespace Cert.Kernel2Ideal.Ffn

open Cert.Kernel2Ideal Cert.Kernel2Ideal.Gen

open Idealize.ShloMosaic Idealize.ShloMosaic.TcCoe Idealize.SL.Sem Idealize.ShloMosaic.StableHlo

variable {F : FTy → Type} [FloatOps F]

variable (m : (ℓ : Loc nD τ sig) → Buf (Elt F) ℓ)

/-- The host operations leave the arguments as they are. -/
theorem V_arg0 (c : Dev nD) : V m c main_arg0 = m ((c.tc : Thread nD τ).loc main_arg0) := by
  show after (hostOps (F := F)).flatten (fun b => m (c, b)) main_arg0 = _
  simp only [hostOps, hostOps0, List.flatten_cons, List.flatten_nil, List.cons_append, List.nil_append]
  after_results_simp <;> rfl

theorem V_arg1 (c : Dev nD) : V m c main_arg1 = m ((c.tc : Thread nD τ).loc main_arg1) := by
  show after (hostOps (F := F)).flatten (fun b => m (c, b)) main_arg1 = _
  simp only [hostOps, hostOps0, List.flatten_cons, List.flatten_nil, List.cons_append, List.nil_append]
  after_results_simp <;> rfl

theorem V_arg2 (c : Dev nD) : V m c main_arg2 = m ((c.tc : Thread nD τ).loc main_arg2) := by
  show after (hostOps (F := F)).flatten (fun b => m (c, b)) main_arg2 = _
  simp only [hostOps, hostOps0, List.flatten_cons, List.flatten_nil, List.cons_append, List.nil_append]
  after_results_simp <;> rfl

theorem V_arg3 (c : Dev nD) : V m c main_arg3 = m ((c.tc : Thread nD τ).loc main_arg3) := by
  show after (hostOps (F := F)).flatten (fun b => m (c, b)) main_arg3 = _
  simp only [hostOps, hostOps0, List.flatten_cons, List.flatten_nil, List.cons_append, List.nil_append]
  after_results_simp <;> rfl

theorem V_arg4 (c : Dev nD) : V m c main_arg4 = m ((c.tc : Thread nD τ).loc main_arg4) := by
  show after (hostOps (F := F)).flatten (fun b => m (c, b)) main_arg4 = _
  simp only [hostOps, hostOps0, List.flatten_cons, List.flatten_nil, List.cons_append, List.nil_append]
  after_results_simp <;> rfl

theorem V_arg5 (c : Dev nD) : V m c main_arg5 = m ((c.tc : Thread nD τ).loc main_arg5) := by
  show after (hostOps (F := F)).flatten (fun b => m (c, b)) main_arg5 = _
  simp only [hostOps, hostOps0, List.flatten_cons, List.flatten_nil, List.cons_append, List.nil_append]
  after_results_simp <;> rfl

theorem V_arg6 (c : Dev nD) : V m c main_arg6 = m ((c.tc : Thread nD τ).loc main_arg6) := by
  show after (hostOps (F := F)).flatten (fun b => m (c, b)) main_arg6 = _
  simp only [hostOps, hostOps0, List.flatten_cons, List.flatten_nil, List.cons_append, List.nil_append]
  after_results_simp <;> rfl

theorem V_arg7 (c : Dev nD) : V m c main_arg7 = m ((c.tc : Thread nD τ).loc main_arg7) := by
  show after (hostOps (F := F)).flatten (fun b => m (c, b)) main_arg7 = _
  simp only [hostOps, hostOps0, List.flatten_cons, List.flatten_nil, List.cons_append, List.nil_append]
  after_results_simp <;> rfl

/-- The arguments are left as they were by every run that meets the call's postcondition. -/
theorem args_kept (r : PUnit × MemSt nD τ sig (Elt F)) (h : Pipeline.FramePost cfgs (dats m) 0 (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(((h.1 c).1 (0 : Fin 11)).trans ((dats m 0 c).arrAt_in (0 : Fin 11) rfl _)).trans (V_arg0 m c),
      ((h.1 c).2 main_arg1 (show main_arg1 ∈ Pipeline.restRefs sig spec0 by decide)).trans (V_arg1 m c),
      (((h.1 c).1 (3 : Fin 11)).trans ((dats m 0 c).arrAt_in (3 : Fin 11) rfl _)).trans (V_arg2 m c),
      (((h.1 c).1 (4 : Fin 11)).trans ((dats m 0 c).arrAt_in (4 : Fin 11) rfl _)).trans (V_arg3 m c),
      (((h.1 c).1 (5 : Fin 11)).trans ((dats m 0 c).arrAt_in (5 : Fin 11) rfl _)).trans (V_arg4 m c),
      ((h.1 c).2 main_arg5 (show main_arg5 ∈ Pipeline.restRefs sig spec0 by decide)).trans (V_arg5 m c),
      (((h.1 c).1 (8 : Fin 11)).trans ((dats m 0 c).arrAt_in (8 : Fin 11) rfl _)).trans (V_arg6 m c),
      ((h.1 c).2 main_arg7 (show main_arg7 ∈ Pipeline.restRefs sig spec0 by decide)).trans (V_arg7 m c)⟩

/-- The program runs, leaves its arguments as they were, and every counter at zero. -/
theorem frame (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run _ _ _).mono (fun r h => ⟨args_kept m r h, h.2⟩) (run m ρ)

end Cert.Kernel2Ideal.Ffn

end
-- ==== Proof.Frames.lean ====
module

public import proofs.«01_k».proof.Defs
public import proofs.«01_k».proof.Proof.Attn.Args
public import proofs.«01_k».proof.Proof.AttnBits.Args
public import proofs.«01_k».proof.Proof.Ffn.Args
public import proofs.«01_k».proof.Proof.FfnBits.Args
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

noncomputable section

/-! # The programs run, and the named constant -/

namespace Cert.Proof

open Idealize.ShloMosaic Idealize.SL.Sem

/-- The kernel runs and leaves its arguments as they were. -/
theorem frame_kernel : Cert.quiescent_Kernel := fun m g _ => Cert.Kernel.Attn.frame m g

/-- So does the idealized kernel. -/
theorem frame_ideal : Cert.quiescent_KernelIdeal := fun m g _ => Cert.KernelIdeal.Attn.frame m g

/-- So does the reference; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward kernel runs and leaves its arguments as they were. -/
theorem frame_kernel2 : Cert.quiescent_Kernel2 := fun m g _ => Cert.Kernel2.Ffn.frame m g

/-- So does the same kernel over the extended reals. -/
theorem frame_ideal2 : Cert.quiescent_Kernel2Ideal := fun m g _ => Cert.Kernel2Ideal.Ffn.frame m g

/-- So does its reference; it has no semaphore. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The output projection runs and leaves its arguments as they were. -/
theorem frame_kernel3 : Cert.quiescent_Kernel3 := fun m g _ => Cert.Kernel3.Gen.frame m g

/-- So does the same kernel over the extended reals. -/
theorem frame_ideal3 : Cert.quiescent_Kernel3Ideal := fun m g _ => Cert.Kernel3Ideal.Gen.frame m g

/-- So does its reference; it has no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The modulation runs and leaves its arguments as they were. -/
theorem frame_kernel4 : Cert.quiescent_Kernel4 := fun m g _ => Cert.Kernel4.Gen.frame m g

/-- So does the same kernel over the extended reals. -/
theorem frame_ideal4 : Cert.quiescent_Kernel4Ideal := fun m g _ => Cert.Kernel4Ideal.Gen.frame m g

/-- So does its reference; it has no semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The threshold below which the kernel stops is named, and its ideal value is minus infinity. -/
theorem preserves : Cert.preserves_Kernel_KernelIdeal := IdealRules.named_const.statement _ _ _ _ _ rfl

end Cert.Proof

end
-- ==== Proof.Attn.Math.lean ====
module

public import Idealize.ShloMosaic.PureOps.Ideal

@[expose] public section

noncomputable section

/-! # Stick breaking over the extended reals

One query's scores `z s` against the keys `s`, of which it sees those before `t`.  Key `s` breaks off a share of the
stick left by the later keys; the log of what a key leaves is `left (z s)`.  Everything is a sum over an interval of keys. -/

namespace Cert.Stick

open Idealize.ShloMosaic

/-- The log of the share of the stick a key with score `z` leaves. -/
def left (z : EReal) : EReal := -(max z 0 + Ideal.log (1 + Ideal.exp (-max z (-z))))

/-- The log of the share it takes. -/
def took (z : EReal) : EReal := -(max (-z) 0 + Ideal.log (1 + Ideal.exp (-max (-z) (- -z))))

theorem coe_max (a b : ℝ) : ((max a b : ℝ) : EReal) = max (a : EReal) b := EReal.coe_strictMono.monotone.map_max

/-- At a real score it is a real. -/
theorem left_coe (r : ℝ) : left r = ((-(max r 0 + Real.log (1 + Real.exp (-max r (-r)))) : ℝ) : EReal) := by
  have h : 0 < 1 + Real.exp (-max r (-r)) := by positivity
  unfold left
  rw [← EReal.coe_neg, ← coe_max, ← EReal.coe_zero, ← coe_max, ← EReal.coe_neg, Ideal.exp_coe, ← EReal.coe_one, ← EReal.coe_add,
    Ideal.log_coe, if_neg (not_le.mpr h), ← EReal.coe_add, ← EReal.coe_neg]

theorem left_top : left ⊤ = ⊥ := by
  unfold left
  have h1 : max (⊤ : EReal) (-⊤) = ⊤ := by simp
  rw [h1, EReal.neg_top, Ideal.exp_bot, add_zero, ← EReal.coe_one, Ideal.log_coe]
  simp

theorem left_bot : left ⊥ = 0 := by
  unfold left
  have h1 : max (⊥ : EReal) (-⊥) = ⊤ := by simp
  rw [h1, EReal.neg_top, Ideal.exp_bot, add_zero, ← EReal.coe_one, Ideal.log_coe]
  simp

theorem took_eq (z : EReal) : took z = left (-z) := rfl

/-- No key leaves more than there was. -/
theorem left_nonpos (z : EReal) : left z ≤ 0 := by
  induction z with
  | top => rw [left_top]; exact bot_le
  | bot => rw [left_bot]
  | coe r =>
    rw [left_coe]
    have h1 : 0 ≤ max r 0 := le_max_right _ _
    have h2 : 0 ≤ Real.log (1 + Real.exp (-max r (-r))) := Real.log_nonneg (by have := Real.exp_pos (-max r (-r)); linarith)
    exact_mod_cast (by linarith : -(max r 0 + Real.log (1 + Real.exp (-max r (-r)))) ≤ 0)

/-- What a key takes over what it leaves is its score. -/
theorem took_coe (r : ℝ) : took r = (r : EReal) + left r := by
  rw [took_eq, ← EReal.coe_neg, left_coe, left_coe, ← EReal.coe_add, neg_neg, max_comm (-r) r]
  congr 1
  rcases le_total r 0 with h | h
  · rw [max_eq_right h, max_eq_left (by linarith : (0 : ℝ) ≤ -r)]; ring
  · rw [max_eq_left h, max_eq_right (by linarith : -r ≤ (0 : ℝ))]; ring

/-- A key's log weight, from its score and the logs of the keys from it on: with the key's own log added to the score,
    or with the log of the share it takes. -/
theorem weight_eq (z T : EReal) (hT : T ≤ 0) : took z + (left z + T - left z) = z + (left z + T) := by
  induction z with
  | top => simp [took_eq, left_top, left_bot]
  | bot => simp [took_eq, left_top, left_bot]
  | coe r =>
    rw [took_coe, left_coe]
    generalize -(max r 0 + Real.log (1 + Real.exp (-max r (-r)))) = l
    induction T with
    | top => exact absurd hT (by simp)
    | bot => simp
    | coe T =>
      simp only [← EReal.coe_add, ← EReal.coe_sub]
      congr 1; ring

/-- A value that is not above zero is the sum of its two halves, the upper being the value itself. -/
theorem halves {l u : EReal} (hl : l ≤ 0) (hu : u = 0 ∨ u = 1) : l * u + (l - l) * u = l * u := by
  rcases hu with rfl | rfl
  · simp
  · induction l with
    | top => exact absurd hl (by simp)
    | bot => simp
    | coe r => rw [← EReal.coe_sub]; simp

/-! ## One query -/

variable (z : ℕ → EReal) (v : ℕ → EReal) (t : ℕ)

/-- The log of what key `s` leaves; a key not seen leaves everything. -/
def loss (s : ℕ) : EReal := if s < t then left (z s) else 0

/-- The keys from `s` on. -/
def tail (s : ℕ) : EReal := ∑ u ∈ Finset.Ico s 16384, loss z t u

/-- Key `s`'s weight. -/
def wt (s : ℕ) : EReal := if s < t then Ideal.exp (z s + tail z t s) else 0

/-- The output from the keys from `s` on. -/
def outp (s : ℕ) : EReal := ∑ u ∈ Finset.Ico s 16384, wt z t u * v u

theorem loss_nonpos (s : ℕ) : loss z t s ≤ 0 := by
  unfold loss; split
  · exact left_nonpos _
  · exact le_refl _

theorem tail_nonpos (s : ℕ) : tail z t s ≤ 0 := Finset.sum_nonpos fun u _ => loss_nonpos z t u

theorem tail_split {a b : ℕ} (hab : a ≤ b) (hb : b ≤ 16384) : tail z t a = (∑ u ∈ Finset.Ico a b, loss z t u) + tail z t b :=
  (Finset.sum_Ico_consecutive _ hab hb).symm

theorem outp_split {a b : ℕ} (hab : a ≤ b) (hb : b ≤ 16384) : outp z v t a = (∑ u ∈ Finset.Ico a b, wt z t u * v u) + outp z v t b :=
  (Finset.sum_Ico_consecutive _ hab hb).symm

/-- The weight in the reference's form. -/
theorem wt_eq {s : ℕ} (hs : s < 16384) : wt z t s = if s < t then Ideal.exp (took (z s) + (tail z t s - loss z t s)) else 0 := by
  unfold wt
  by_cases h : s < t
  · rw [if_pos h, if_pos h]
    have e : tail z t s = left (z s) + tail z t (s + 1) := by
      rw [tail_split z t (Nat.le_succ s) hs, Nat.Ico_succ_singleton, Finset.sum_singleton, loss, if_pos h]
    rw [e, loss, if_pos h, weight_eq _ _ (tail_nonpos z t _)]
  · rw [if_neg h, if_neg h]

/-- Sums over an interval, counted from its left end. -/
theorem sum_block {M : Type*} [AddCommMonoid M] (f : ℕ → M) (a n : ℕ) : ∑ m : Fin n, f (a + m.val) = ∑ u ∈ Finset.Ico a (a + n), f u := by
  rw [Finset.sum_Ico_eq_sum_range, Nat.add_sub_cancel_left, Finset.sum_range]

/-- The keys of a block from the `j`-th on. -/
theorem sum_from {M : Type*} [AddCommMonoid M] (f : ℕ → M) (a n j : ℕ) (hj : j ≤ n) :
    (∑ m : Fin n, if j ≤ m.val then f (a + m.val) else 0) = ∑ u ∈ Finset.Ico (a + j) (a + n), f u := by
  refine Eq.trans ?_ ((sum_block (fun u => if j ≤ u - a then f u else 0) a n).trans ?_)
  rotate_left
  · rw [← Finset.sum_Ico_consecutive _ (Nat.le_add_right a j) (Nat.add_le_add_left hj a)]
    rw [Finset.sum_eq_zero (s := Finset.Ico a (a + j)), zero_add]
    · refine Finset.sum_congr rfl fun u hu => ?_
      rw [Finset.mem_Ico] at hu; rw [if_pos (by omega)]
    · intro u hu
      rw [Finset.mem_Ico] at hu; rw [if_neg (by omega)]
  · refine Finset.sum_congr rfl fun m _ => ?_
    rw [Nat.add_sub_cancel_left]

/-- Once nothing of the stick is left, the keys further left weigh nothing. -/
theorem outp_lost {s : ℕ} (hs : s ≤ 16384) (h : tail z t s = ⊥) : outp z v t 0 = outp z v t s := by
  rw [outp_split z v t (Nat.zero_le s) hs, Finset.sum_eq_zero, zero_add]
  intro u hu
  rw [Finset.mem_Ico] at hu
  unfold wt
  rw [tail_split z t (Nat.le_of_lt hu.2) hs, h, EReal.add_bot, EReal.add_bot, Ideal.exp_bot]
  split <;> simp

/-- Keys not seen weigh nothing and leave everything. -/
theorem tail_unseen {s : ℕ} (h : t ≤ s) : tail z t s = 0 :=
  Finset.sum_eq_zero fun u hu => by rw [Finset.mem_Ico] at hu; rw [loss, if_neg (by omega)]

theorem outp_unseen {s : ℕ} (h : t ≤ s) : outp z v t s = 0 :=
  Finset.sum_eq_zero fun u hu => by rw [Finset.mem_Ico] at hu; rw [wt, if_neg (by omega), zero_mul]

end Cert.Stick

end
-- ==== Proof.Attn.Entry.lean ====
module

public import proofs.«01_k».proof.Proof.Attn.Ops
public import proofs.«01_k».proof.Proof.Attn.Math
public import Idealize.ShloMosaic.Lib.Pointwise
public import Idealize.ShloMosaic.Lib.Pipeline.Value

@[expose] public section

set_option maxRecDepth 16384

noncomputable section

/-! # The operations of a sweep, entry by entry, over the extended reals -/

namespace Cert.KernelIdeal.Attn

open Cert.KernelIdeal Cert.KernelIdeal.Gen Cert.Stick

open Idealize.ShloMosaic Idealize.ShloMosaic.TcCoe

/-- A score is the product of a query and a key. -/
theorem zOf_at (q k : Vec Ideal S128x128 .bf16) (r m : Fin 128) :
    zOf (F := Ideal) q k (ix2 r m) = ∑ d : Fin 128, (show EReal from q (ix2 r d)) * (show EReal from k (ix2 m d)) := by
  pointwise [zOf]

/-- What a key leaves, under the mask. -/
theorem lsOf_at (mk : IVec S128x128 1) (z : FVec Ideal S128x128 .f32) (r m : Fin 128) :
    lsOf (F := Ideal) mk z (ix2 r m) = if mk (ix2 r m) = 1#1 then left (z (ix2 r m)) else 0 := by
  pointwise [lsOf, left]
  rw [zero_sub, zero_sub]; rfl

theorem hiOf_at (l : FVec Ideal S128x128 .f32) (r m : Fin 128) : hiOf (F := Ideal) l (ix2 r m) = l (ix2 r m) := by
  pointwise [hiOf]

theorem loOf_at (l : FVec Ideal S128x128 .f32) (r m : Fin 128) :
    loOf (F := Ideal) l (ix2 r m) = (show EReal from l (ix2 r m)) - l (ix2 r m) := by
  pointwise [loOf, hiOf]

/-- The eight upper halves, then the eight lower ones. -/
theorem catOf_at (h l : Fin 8 → FVec Ideal S128x128 .bf16) (n : Fin 16) (r k : Fin 128) :
    catOf (F := Ideal) h l (ix2 ⟨128 * n.val + r.val, by omega⟩ k) = (Fin.append h l : Fin 16 → FVec Ideal S128x128 .bf16) n (ix2 r k) := by
  show concatenate S2048x128 0 (List.ofFn fun n : Fin 16 =>
    (⟨S128x128, (Fin.append h l : Fin 16 → FVec Ideal S128x128 .bf16) n⟩ : (s : Shape) × (s.Idx → EReal))) _ _ = _
  refine concatenate_ofFn_apply (t := S2048x128) (s₁ := S128x128) 0 (Fin.append h l : Fin 16 → FVec Ideal S128x128 .bf16) _ rfl 128 rfl _ n ?_ (ix2 r k) ?_ ?_
  · show (128 * n.val + r.val) / 128 = n.val
    omega
  · show r.val = (128 * n.val + r.val) % 128
    omega
  · intro b hb
    fin_cases b
    · exact absurd rfl hb
    · rfl

/-- Group `g`'s sums of logs: a product with the given matrix of zeros and ones, the halves put together again. -/
theorem cOf_at (v2 : FVec Ideal S128x256 .bf16) (ls : Fin 8 → FVec Ideal S128x128 .f32) (g : Fin 8) (r : Fin 128) (j : Fin 256)
    (hl : ∀ m, (ls g (ix2 r m) : EReal) ≤ 0) (hu : ∀ m, (v2 (ix2 m j) : EReal) = 0 ∨ (v2 (ix2 m j) : EReal) = 1) :
    cOf (F := Ideal) (cumOf v2 ls) g (ix2 r j) = ∑ m : Fin 128, (show EReal from ls g (ix2 r m)) * (show EReal from v2 (ix2 m j)) := by
  pointwise [cOf, cumOf]
  rw [← Finset.sum_add_distrib]
  refine Finset.sum_congr rfl fun m _ => ?_
  have e1 : catOf (F := Ideal) (fun g => hiOf (ls g)) (fun g => loOf (ls g)) (ix2 ⟨128 * g.val + r.val, by omega⟩ m) = ls g (ix2 r m) := by
    refine (catOf_at _ _ (Fin.castAdd 8 g) r m).trans ?_
    rw [Fin.append_left]; exact hiOf_at _ _ _
  have e2 : catOf (F := Ideal) (fun g => hiOf (ls g)) (fun g => loOf (ls g)) (ix2 ⟨1024 + 128 * g.val + r.val, by omega⟩ m)
      = (show EReal from ls g (ix2 r m)) - ls g (ix2 r m) := by
    have h := catOf_at (fun g => hiOf (ls g)) (fun g => loOf (ls g)) (Fin.natAdd 8 g) r m
    rw [Fin.append_right, loOf_at] at h
    refine Eq.trans (congrArg _ ?_) h
    refine congrArg (fun a => (ix2 a m : S2048x128.Idx)) (Fin.ext ?_)
    show 1024 + 128 * g.val + r.val = 128 * (8 + g.val) + r.val
    omega
  rw [e1, e2]
  exact halves (hl m) (hu m)

/-- Group `g`'s running sum after the sweep. -/
theorem runOf_at (cc : FVec Ideal S128x256 .f32) (ru : Vec Ideal S1x128x128 .f32) (r j : Fin 128) :
    runOf (F := Ideal) cc ru (ix3 0 r j) = (show EReal from ru (ix3 0 r j)) + cc (ix2 r ⟨128 + j.val, by omega⟩) := by
  pointwise [runOf, runV]

/-- Group `g`'s output after the sweep. -/
theorem accOf_at (mk : IVec S128x128 1) (z : FVec Ideal S128x128 .f32) (cc : FVec Ideal S128x256 .f32) (ru a : Vec Ideal S1x128x128 .f32)
    (v : Vec Ideal S128x128 .bf16) (r d : Fin 128) :
    accOf (F := Ideal) mk z cc ru a v (ix3 0 r d) = (show EReal from a (ix3 0 r d)) + ∑ m : Fin 128,
      (if mk (ix2 r m) = 1#1 then Ideal.exp (z (ix2 r m) + (show EReal from ru (ix3 0 r m)) + cc (ix2 r ⟨m.val, by omega⟩)) else 0)
        * (show EReal from v (ix2 m d)) := by
  pointwise [accOf]
  refine congrArg _ (Finset.sum_congr rfl fun m _ => ?_)
  by_cases h : mk (ix2 r m) = 1#1
  · rw [if_pos h, h]; rfl
  · rw [if_neg h, zero_mul, (show mk (ix2 r m) = 0#1 by revert h; generalize mk (ix2 r m) = b; revert b; decide)]; rfl

/-- The largest running sum is at least each. -/
theorem le_maxOf (cc : FVec Ideal S128x256 .f32) (ru : Vec Ideal S1x128x128 .f32) (r j : Fin 128) :
    (runOf (F := Ideal) cc ru (ix3 0 r j) : EReal) ≤ maxOf (F := Ideal) cc ru := by
  unfold maxOf
  generalize runOf cc ru = x
  pointwise
  rw [Finset.le_fold_max]
  exact Or.inr ⟨(r, j), Finset.mem_univ _, le_refl _⟩

/-- The first sweep's mask: the keys before the query. -/
theorem mk1_at (r m : Fin 128) : mk1 (ix2 r m) = 1#1 ↔ m.val < r.val := by
  pointwise [mk1]
  revert r m
  decide +kernel

/-- What a group writes out is its accumulated output. -/
theorem outV_at (a : Vec Ideal S1x128x128 .f32) (r d : Fin 128) :
    (truncf .bf16 (shapeCast S128x128 a shapeCasts_S1x128x128_S128x128) bitsLt_bf16_f32 : FVec Ideal S128x128 .bf16) (ix2 r d) = a (ix3 0 r d) := by
  pointwise

end Cert.KernelIdeal.Attn

end
-- ==== Proof.Attn.Rows.lean ====
module

public import proofs.«01_k».proof.Proof.Attn.Body
public import proofs.«01_k».proof.Proof.Attn.Entry
public import Idealize.ShloMosaic.Lib.WritesUnit

@[expose] public section

set_option maxRecDepth 16384

noncomputable section

/-! # What the kernel's loads read -/

namespace Cert.KernelIdeal.Attn

open Cert.KernelIdeal Cert.KernelIdeal.Gen Cert.Stick

open Idealize.ShloMosaic Idealize.ShloMosaic.TcCoe

variable (c : Dev nD) (i : grid0.Coords)
  (M2 : Memref sig .tc .smem S1 .f32) (M3 : Memref sig .tc .vmem S1024x128 .bf16) (M4 M5 : Memref sig .tc .vmem S16384x128 .bf16)
  (M6 : Memref sig .tc .vmem S128x256 .bf16) (M7 : Memref sig .tc .vmem S1024x128 .bf16)
  (f2 : Bf Ideal c M2) (f3 : Bf Ideal c M3) (f4 : Bf Ideal c M4) (f5 : Bf Ideal c M5) (f6 : Bf Ideal c M6) (f7 : Bf Ideal c M7)
  (A : BA Ideal c) (R : BR Ideal c)

/-- Group `g`'s queries are the rows `128 g …` of the block. -/
theorem qOf_at (g : Fin 8) (r d : Fin 128) :
    qOf c M3 f3 g (ix2 r d) = M3.view.read (Elt Ideal) f3 (ix2 ⟨128 * g.val + r.val, by omega⟩ d) := by
  refine congrArg (M3.view.read (Elt Ideal) f3) (funext fun a => Fin.ext ?_)
  fin_cases a
  · show 128 * g.val + 1 * r.val = 128 * g.val + r.val
    omega
  · show 0 + 1 * d.val = d.val
    omega

/-- A sweep's keys are the rows of the block the group is at. -/
theorem kOf_at (M : Memref sig .tc .vmem S16384x128 .bf16) (f : Bf Ideal c M) (it : BitVec 32) (hchk : k0_chk1 i it) (h : it.toNat ≤ 129) (g : Fin 8)
    (m d : Fin 128) (s : Fin 16384) (hs : s.val = ((i 1).val * 8 + g.val - it.toNat) * 128 + m.val) :
    kOf c i M it hchk f g (ix2 m d) = M.view.read (Elt Ideal) f (ix2 s d) := by
  refine congrArg (M.view.read (Elt Ideal) f) (funext fun a => Fin.ext ?_)
  have e := off2_eq i it g h
  fin_cases a
  · show k0_off2 i it (BitVec.ofNat 32 g.val) 0 + 1 * m.val = s.val
    rw [e, hs]
    show ((i 1).val * 8 + g.val - it.toNat) * 128 + 1 * m.val = _
    omega
  · show k0_off2 i it (BitVec.ofNat 32 g.val) 1 + 1 * d.val = d.val
    rw [e]
    show 0 + 1 * d.val = d.val
    omega

/-- The first sweep's keys are the rows of the queries' own block. -/
theorem kOf1_at (M : Memref sig .tc .vmem S16384x128 .bf16) (f : Bf Ideal c M) (g : Fin 8)
    (m d : Fin 128) (s : Fin 16384) (hs : s.val = ((i 1).val * 8 + g.val) * 128 + m.val) :
    kOf1 c i M f g (ix2 m d) = M.view.read (Elt Ideal) f (ix2 s d) := by
  refine congrArg (M.view.read (Elt Ideal) f) (funext fun a => Fin.ext ?_)
  have e := off1_eq i g
  fin_cases a
  · show k0_off1 i (BitVec.ofNat 32 g.val) 0 + 1 * m.val = s.val
    rw [e, hs]
    show ((i 1).val * 8 + g.val) * 128 + 1 * m.val = _
    omega
  · show k0_off1 i (BitVec.ofNat 32 g.val) 1 + 1 * d.val = d.val
    rw [e]
    show 0 + 1 * d.val = d.val
    omega

/-- The bound on the scores is the one element of its array. -/
theorem zbOf_eq : zbOf c M2 f2 = M2.view.read (Elt Ideal) f2 (ix1 0) := by
  refine congrArg (M2.view.read (Elt Ideal) f2) (funext fun a => Fin.ext ?_)
  fin_cases a
  exact Nat.lt_one_iff.mp (Fin.isLt _)

/-- The matrix of ones is read whole. -/
theorem uOf_at (m : Fin 128) (j : Fin 256) : uOf c M6 f6 (ix2 m j) = M6.view.read (Elt Ideal) f6 (ix2 m j) := by
  refine (congrFun (shapeCast_self (s := S128x256) (View.readAt (Elt Ideal) M6.view
    (Rect.unit (s := S128x256) ![0, 0] S128x256.size inb_S128x256_S128x256_0_0).toLoadRect f6) shapeCasts_S128x256_S128x256) (ix2 m j)).trans ?_
  refine congrArg (M6.view.read (Elt Ideal) f6) (funext fun a => Fin.ext ?_)
  fin_cases a
  · show 0 + 1 * m.val = m.val
    omega
  · show 0 + 1 * j.val = j.val
    omega

/-- A group's part of an accumulator. -/
theorem row_idx (g : Fin 8) (r d : Fin 128) : (row g).toLoadRect.idx (ix3 0 r d) = (ix3 g r d : S8x128x128.Idx) := funext fun a => Fin.ext (by
  fin_cases a
  · show g.val + 1 * 0 = g.val
    omega
  · show 0 + 1 * r.val = r.val
    omega
  · show 0 + 1 * d.val = d.val
    omega)

theorem aRow_eq (X : BA Ideal c) (g : Fin 8) (r d : Fin 128) :
    aRow c X g (ix3 0 r d) = (Memref.whole cc0_scratch0).view.read (Elt Ideal) X (ix3 g r d) :=
  congrArg ((Memref.whole cc0_scratch0).view.read (Elt Ideal) X) (row_idx g r d)

theorem rRow_eq (X : BR Ideal c) (g : Fin 8) (r d : Fin 128) :
    rRow c X g (ix3 0 r d) = (Memref.whole cc0_scratch1).view.read (Elt Ideal) X (ix3 g r d) :=
  congrArg ((Memref.whole cc0_scratch1).view.read (Elt Ideal) X) (row_idx g r d)

/-- A list of stores of whole groups: the newest store decides its own group. -/
theorem read_row_same (v : View sig .tc .vmem S8x128x128 .f32) (f : v.ty.Contents (Elt Ideal)) (g : Fin 8) (w : FVec Ideal S1x128x128 .f32)
    (L : List (View.Piece (Elt Ideal) S8x128x128 .f32)) (r d : Fin 128) :
    v.read (Elt Ideal) (v.writes (Elt Ideal) f (⟨row g, w⟩ :: L)) (ix3 g r d) = w (ix3 0 r d) :=
  View.read_writes_cons_unit_of_mem v f (rowFits g) w L (ix3 g r d) (ix3 0 r d) rfl fun a => by
    fin_cases a
    · show g.val = g.val + 0
      rfl
    · show r.val = 0 + r.val
      omega
    · show d.val = 0 + d.val
      omega

/-- The others are what the older stores left. -/
theorem read_row_other (v : View sig .tc .vmem S8x128x128 .f32) (f : v.ty.Contents (Elt Ideal)) (g g' : Fin 8) (hg : g'.val ≠ g.val)
    (w : FVec Ideal S1x128x128 .f32) (L : List (View.Piece (Elt Ideal) S8x128x128 .f32)) (r d : Fin 128) :
    v.read (Elt Ideal) (v.writes (Elt Ideal) f (⟨row g, w⟩ :: L)) (ix3 g' r d) = v.read (Elt Ideal) (v.writes (Elt Ideal) f L) (ix3 g' r d) :=
  View.read_writes_cons_unit_of_not_mem v f (rowFits g) w L (ix3 g' r d) rfl 0 (by
    show g'.val < g.val ∨ g.val + 1 ≤ g'.val
    omega)

/-- Every group replaced: each reads its own. -/
theorem read_puts (v : View sig .tc .vmem S8x128x128 .f32) (f : v.ty.Contents (Elt Ideal)) (p : Fin 8 → FVec Ideal S1x128x128 .f32) (g : Fin 8)
    (r d : Fin 128) :
    v.read (Elt Ideal) (v.writes (Elt Ideal) f [⟨row 7, p 7⟩, ⟨row 6, p 6⟩, ⟨row 5, p 5⟩, ⟨row 4, p 4⟩, ⟨row 3, p 3⟩, ⟨row 2, p 2⟩,
      ⟨row 1, p 1⟩, ⟨row 0, p 0⟩]) (ix3 g r d) = p g (ix3 0 r d) := by
  fin_cases g <;>
  · repeat rw [read_row_other v f _ _ (by decide)]
    exact read_row_same v f _ _ _ r d

theorem aRow_put (p : Fin 8 → FVec Ideal S1x128x128 .f32) (g : Fin 8) (r d : Fin 128) : aRow c (putA c A p) g (ix3 0 r d) = p g (ix3 0 r d) := by
  refine (aRow_eq c _ g r d).trans ?_
  exact read_puts _ A p g r d

theorem rRow_put (p : Fin 8 → FVec Ideal S1x128x128 .f32) (g : Fin 8) (r d : Fin 128) : rRow c (putR c R p) g (ix3 0 r d) = p g (ix3 0 r d) := by
  refine (rRow_eq c _ g r d).trans ?_
  exact read_puts _ R p g r d

/-- Stores that begin with zeros everywhere and go on group by group. -/
theorem read_first (v : View sig .tc .vmem S8x128x128 .f32) (f : v.ty.Contents (Elt Ideal)) (L : ℕ → List (View.Piece (Elt Ideal) S8x128x128 .f32))
    (w : ℕ → FVec Ideal S1x128x128 .f32) (h0 : L 0 = [⟨wholeR, zeros (F := Ideal)⟩]) (hs : ∀ n, L (n + 1) = ⟨row (grp n), w n⟩ :: L n) (g : Fin 8) (r d : Fin 128) :
    ∀ n, n ≤ 8 → v.read (Elt Ideal) (v.writes (Elt Ideal) f (L n)) (ix3 g r d) = if g.val < n then w g.val (ix3 0 r d) else (0 : EReal) := by
  intro n
  induction n with
  | zero =>
    intro _
    rw [h0, if_neg (Nat.not_lt_zero _)]
    refine (View.read_writes_cons_unit_of_mem v f (s := S8x128x128) inb_S8x128x128_S8x128x128_0_0_0 (zeros (F := Ideal)) [] (ix3 g r d) (ix3 g r d) rfl fun a => ?_).trans ?_
    · fin_cases a
      · show g.val = 0 + g.val
        omega
      · show r.val = 0 + r.val
        omega
      · show d.val = 0 + d.val
        omega
    · pointwise [zeros]
  | succ n ih =>
    intro hn
    have hg := g.isLt
    rw [hs]
    by_cases h : g.val = n
    · have e : grp n = g := Fin.ext (by show n % 8 = g.val; omega)
      rw [e, read_row_same, if_pos (by omega), h]
    · rw [read_row_other v f (grp n) g (by show g.val ≠ n % 8; omega), ih (by omega)]
      by_cases h2 : g.val < n
      · rw [if_pos h2, if_pos (by omega)]
      · rw [if_neg h2, if_neg (by omega)]

/-- The first sweep finds no running sum. -/
theorem rIn_at (g : Fin 8) (r d : Fin 128) : (rIn c i M3 M4 M6 f3 f4 f6 g (ix3 0 r d) : EReal) = 0 := by
  refine (rRow_eq c _ g r d).trans ?_
  refine (read_first _ _ (preR c i M3 M4 M6 f3 f4 f6) (fun n => runOf (cum1 c i M3 M4 M6 f3 f4 f6 (grp n))
      ((Memref.whole cc0_scratch1).view.readCov (Val := Elt Ideal) (preR c i M3 M4 M6 f3 f4 f6 n) (row (grp n)).toLoadRect))
    rfl (fun _ => rfl) g r d g.val (by omega)).trans ?_
  rw [if_neg (Nat.lt_irrefl _)]

theorem grp_val (g : Fin 8) : grp g.val = g := Fin.ext (Nat.mod_eq_of_lt g.isLt)

/-- The running sums the first sweep leaves. -/
theorem firstR_at (g : Fin 8) (r d : Fin 128) : rRow c (firstR c i M3 M4 M6 f3 f4 f6 R) g (ix3 0 r d)
    = runOf (cum1 c i M3 M4 M6 f3 f4 f6 g) (rIn c i M3 M4 M6 f3 f4 f6 g) (ix3 0 r d) := by
  refine (rRow_eq c _ g r d).trans ?_
  refine (read_first _ R (preR c i M3 M4 M6 f3 f4 f6) (fun n => runOf (cum1 c i M3 M4 M6 f3 f4 f6 (grp n))
      ((Memref.whole cc0_scratch1).view.readCov (Val := Elt Ideal) (preR c i M3 M4 M6 f3 f4 f6 n) (row (grp n)).toLoadRect))
    rfl (fun _ => rfl) g r d 8 (by omega)).trans ?_
  rw [if_pos g.isLt]
  show runOf (cum1 c i M3 M4 M6 f3 f4 f6 (grp g.val)) _ _ = _
  rw [grp_val]
  rfl

/-- The outputs it leaves, from an accumulator of zeros. -/
theorem firstA_at (g : Fin 8) (r d : Fin 128) : ∃ a : Vec Ideal S1x128x128 .f32, (∀ r d : Fin 128, (a (ix3 0 r d) : EReal) = 0) ∧
    aRow c (firstA c i M3 M4 M5 M6 f3 f4 f5 f6 A) g (ix3 0 r d)
    = accOf mk1 (zOf (qOf c M3 f3 g) (kOf1 c i M4 f4 g)) (cum1 c i M3 M4 M6 f3 f4 f6 g) (rIn c i M3 M4 M6 f3 f4 f6 g) a (kOf1 c i M5 f5 g) (ix3 0 r d) := by
  have key := fun (f : BA Ideal c) (r d : Fin 128) => read_first (Memref.whole cc0_scratch0).view f (preA c i M3 M4 M5 M6 f3 f4 f5 f6)
    (fun n => accOf mk1 (zOf (qOf c M3 f3 (grp n)) (kOf1 c i M4 f4 (grp n))) (cum1 c i M3 M4 M6 f3 f4 f6 (grp n))
      (rIn c i M3 M4 M6 f3 f4 f6 (grp n))
      ((Memref.whole cc0_scratch0).view.readCov (Val := Elt Ideal) (preA c i M3 M4 M5 M6 f3 f4 f5 f6 n) (row (grp n)).toLoadRect) (kOf1 c i M5 f5 (grp n)))
    rfl (fun _ => rfl) g r d
  refine ⟨(Memref.whole cc0_scratch0).view.readCov (Val := Elt Ideal) (preA c i M3 M4 M5 M6 f3 f4 f5 f6 g.val) (row g).toLoadRect, fun r d => ?_, ?_⟩
  · refine (aRow_eq c _ g r d).trans ?_
    refine (key _ r d g.val (by omega)).trans ?_
    rw [if_neg (Nat.lt_irrefl _)]
  · refine (aRow_eq c _ g r d).trans ?_
    refine (key A r d 8 (by omega)).trans ?_
    rw [if_pos g.isLt]
    show accOf mk1 (zOf (qOf c M3 f3 (grp g.val)) (kOf1 c i M4 f4 (grp g.val))) _ _ _ _ _ = _
    rw [grp_val]

/-- The output's block is written group by group from the accumulated outputs. -/
theorem putO_at (g : Fin 8) (r d : Fin 128) :
    M7.view.read (Elt Ideal) (putO c M7 f7 A) (ix2 ⟨128 * g.val + r.val, by omega⟩ d) = aRow c A g (ix3 0 r d) := by
  have same : ∀ (g : Fin 8) (L : List (View.Piece (Elt Ideal) S1024x128 .bf16)), M7.view.read (Elt Ideal) (M7.view.writes (Elt Ideal) f7 (⟨outR g, outV (aRow c A g)⟩ :: L))
      (ix2 ⟨128 * g.val + r.val, by omega⟩ d) = aRow c A g (ix3 0 r d) := fun g L => by
    refine (View.read_writes_cons_unit_of_mem M7.view f7 (qFits g) (outV (aRow c A g)) L (ix2 ⟨128 * g.val + r.val, by omega⟩ d) (ix2 r d) rfl fun a => ?_).trans ?_
    · fin_cases a
      · show 128 * g.val + r.val = 128 * g.val + r.val
        rfl
      · show d.val = 0 + d.val
        omega
    · exact outV_at _ r d
  have other : ∀ (g g' : Fin 8) (L : List (View.Piece (Elt Ideal) S1024x128 .bf16)), g'.val ≠ g.val →
      M7.view.read (Elt Ideal) (M7.view.writes (Elt Ideal) f7 (⟨outR g, outV (aRow c A g)⟩ :: L)) (ix2 ⟨128 * g'.val + r.val, by omega⟩ d)
      = M7.view.read (Elt Ideal) (M7.view.writes (Elt Ideal) f7 L) (ix2 ⟨128 * g'.val + r.val, by omega⟩ d) := fun g g' L h =>
    View.read_writes_cons_unit_of_not_mem M7.view f7 (qFits g) (outV (aRow c A g)) L (ix2 ⟨128 * g'.val + r.val, by omega⟩ d) rfl 0 (by
      show 128 * g'.val + r.val < 128 * g.val ∨ 128 * g.val + 128 ≤ 128 * g'.val + r.val
      have := r.isLt
      omega)
  unfold putO
  fin_cases g <;>
  · repeat refine (other _ _ _ (by decide)).trans ?_
    exact same _ _

end Cert.KernelIdeal.Attn

end
-- ==== Proof.Attn.Keeps.lean ====
module

public import proofs.«01_k».proof.Proof.Attn.Rows
public import proofs.«01_k».proof.Proof.Attn.Point

@[expose] public section

set_option maxRecDepth 16384

noncomputable section

/-! # The sweeps' invariant: each group holds the sums over the keys it has passed -/

namespace Cert.KernelIdeal.Attn

open Cert.KernelIdeal Cert.KernelIdeal.Gen Cert.Stick

open Idealize.ShloMosaic Idealize.ShloMosaic.TcCoe

/-! ## One group, one sweep -/

section Sweep

variable (z v : ℕ → EReal) (t a : ℕ) (v2 : FVec Ideal S128x256 .bf16) (ls : Fin 8 → FVec Ideal S128x128 .f32) (g : Fin 8) (r : Fin 128)

/-- The matrix of ones: a key counts for itself and the keys left of it, and in the second half for all. -/
def IsOnes (v2 : FVec Ideal S128x256 .bf16) : Prop :=
  ∀ (m : Fin 128) (j : Fin 256), (v2 (ix2 m j) : EReal) = if j.val ≤ m.val ∨ 128 ≤ j.val then 1 else 0

variable {v2} (hu : IsOnes v2)
include hu

theorem ones_or (m : Fin 128) (j : Fin 256) : (v2 (ix2 m j) : EReal) = 0 ∨ (v2 (ix2 m j) : EReal) = 1 := by
  rw [hu m j]; split
  · exact Or.inr rfl
  · exact Or.inl rfl

variable {ls g r}

section Block

variable {z t a} (hl : ∀ m : Fin 128, (ls g (ix2 r m) : EReal) = loss z t (a + m.val))
include hl

theorem cc_lo (j : Fin 128) :
    (cOf (F := Ideal) (cumOf v2 ls) g (ix2 r ⟨j.val, by omega⟩) : EReal) = ∑ u ∈ Finset.Ico (a + j.val) (a + 128), loss z t u := by
  rw [cOf_at v2 ls g r _ (fun m => (hl m).trans_le (loss_nonpos z t _)) (fun m => ones_or hu m _), ← sum_from (loss z t) a 128 j.val (by omega)]
  refine Finset.sum_congr rfl fun m _ => ?_
  show (ls g (ix2 r m) : EReal) * (v2 (ix2 m ⟨j.val, _⟩) : EReal) = _
  rw [hl m, hu m _]
  have hj := j.isLt
  by_cases h : j.val ≤ m.val
  · rw [if_pos (Or.inl h), if_pos h, mul_one]
  · rw [if_neg (by show ¬(j.val ≤ m.val ∨ 128 ≤ j.val); omega), if_neg h, mul_zero]

theorem cc_hi (j : Fin 128) :
    (cOf (F := Ideal) (cumOf v2 ls) g (ix2 r ⟨128 + j.val, by omega⟩) : EReal) = ∑ u ∈ Finset.Ico a (a + 128), loss z t u := by
  rw [cOf_at v2 ls g r _ (fun m => (hl m).trans_le (loss_nonpos z t _)) (fun m => ones_or hu m _), ← sum_block]
  refine Finset.sum_congr rfl fun m _ => ?_
  show (ls g (ix2 r m) : EReal) * (v2 (ix2 m ⟨128 + j.val, _⟩) : EReal) = _
  rw [hl m, hu m _, if_pos (Or.inr (Nat.le_add_right _ _)), mul_one]

/-- The running sum takes the block in. -/
theorem run_step (ha : a + 128 ≤ 16384) (ru : Vec Ideal S1x128x128 .f32) (j : Fin 128) (hr : (ru (ix3 0 r j) : EReal) = tail z t (a + 128)) :
    (runOf (F := Ideal) (cOf (cumOf v2 ls) g) ru (ix3 0 r j) : EReal) = tail z t a := by
  rw [runOf_at]
  show (ru (ix3 0 r j) : EReal) + (cOf (F := Ideal) (cumOf v2 ls) g (ix2 r ⟨128 + j.val, _⟩) : EReal) = _
  rw [hr, cc_hi hu hl, tail_split z t (Nat.le_add_right a 128) ha, add_comm]

/-- So does the output. -/
theorem acc_step (ha : a + 128 ≤ 16384) (mk : IVec S128x128 1) (hmk : ∀ m : Fin 128, mk (ix2 r m) = 1#1 ↔ a + m.val < t)
    (zz : FVec Ideal S128x128 .f32) (hz : ∀ m : Fin 128, (zz (ix2 r m) : EReal) = z (a + m.val)) (ru ac : Vec Ideal S1x128x128 .f32) (vv : Vec Ideal S128x128 .bf16)
    (d : Fin 128) (hr : ∀ j, (ru (ix3 0 r j) : EReal) = tail z t (a + 128)) (hv : ∀ m, (vv (ix2 m d) : EReal) = v (a + m.val))
    (hac : (ac (ix3 0 r d) : EReal) = outp z v t (a + 128)) :
    (accOf (F := Ideal) mk zz (cOf (cumOf v2 ls) g) ru ac vv (ix3 0 r d) : EReal) = outp z v t a := by
  rw [accOf_at, outp_split z v t (Nat.le_add_right a 128) ha, ← sum_block (fun u => wt z t u * v u) a 128]
  show (ac (ix3 0 r d) : EReal) + _ = _
  rw [hac, add_comm]
  refine congrArg (· + outp z v t (a + 128)) (Finset.sum_congr rfl fun m _ => ?_)
  have e : (zz (ix2 r m) : EReal) + (ru (ix3 0 r m) : EReal) + (cOf (F := Ideal) (cumOf v2 ls) g (ix2 r ⟨m.val, by omega⟩) : EReal)
      = z (a + m.val) + tail z t (a + m.val) := by
    rw [hz, hr, cc_lo hu hl, tail_split z t (show a + m.val ≤ a + 128 by omega) ha, add_assoc, add_comm (tail z t (a + 128))]
  have e2 : (if mk (ix2 r m) = 1#1 then Ideal.exp ((zz (ix2 r m) : EReal) + (ru (ix3 0 r m) : EReal)
      + (cOf (F := Ideal) (cumOf v2 ls) g (ix2 r ⟨m.val, by omega⟩) : EReal)) else 0) = wt z t (a + m.val) := by
    unfold wt
    rw [e]
    by_cases h : a + m.val < t
    · rw [if_pos h, if_pos ((hmk m).mpr h)]
    · rw [if_neg h, if_neg fun h' => h ((hmk m).mp h')]
  exact congrArg₂ (fun x y : EReal => x * y) e2 (hv m)

end Block

section Done

variable (hl : ∀ m : Fin 128, (ls g (ix2 r m) : EReal) = 0)
include hl

theorem cc_zero (j : Fin 256) : (cOf (F := Ideal) (cumOf v2 ls) g (ix2 r j) : EReal) = 0 := by
  rw [cOf_at v2 ls g r _ (fun m => (hl m).le) (fun m => ones_or hu m _)]
  refine Finset.sum_eq_zero fun m _ => ?_
  show (ls g (ix2 r m) : EReal) * (v2 (ix2 m j) : EReal) = _
  rw [hl m, zero_mul]

theorem run_done (ru : Vec Ideal S1x128x128 .f32) (j : Fin 128) :
    (runOf (F := Ideal) (cOf (cumOf v2 ls) g) ru (ix3 0 r j) : EReal) = ru (ix3 0 r j) := by
  rw [runOf_at]
  show (ru (ix3 0 r j) : EReal) + (cOf (F := Ideal) (cumOf v2 ls) g (ix2 r ⟨128 + j.val, _⟩) : EReal) = _
  rw [cc_zero hu hl, add_zero]

end Done

omit hu in
theorem acc_done (mk : IVec S128x128 1) (hmk : ∀ m : Fin 128, mk (ix2 r m) ≠ 1#1) (zz : FVec Ideal S128x128 .f32) (cc : FVec Ideal S128x256 .f32)
    (ru ac : Vec Ideal S1x128x128 .f32) (vv : Vec Ideal S128x128 .bf16) (d : Fin 128) :
    (accOf (F := Ideal) mk zz cc ru ac vv (ix3 0 r d) : EReal) = ac (ix3 0 r d) := by
  rw [accOf_at, Finset.sum_eq_zero, add_zero]
  intro m _
  rw [if_neg (hmk m), zero_mul]

end Sweep

/-! ## The loop's condition -/

theorem or_ne {a b : BitVec 1} : Scalar.ori a b ≠ 1#1 → a ≠ 1#1 ∧ b ≠ 1#1 := by
  revert a b; decide

/-- Where the loop stops no group goes on. -/
theorem stop_of_cond (i : grid0.Coords) (v0 : Elt Ideal .f32) (it : BitVec 32) (X : Fin 8 → Ideal .f32) (h : condW (F := Ideal) i v0 it X ≠ 1#1) (g : Fin 8) :
    goes (F := Ideal) i v0 it (X g) g ≠ 1#1 := by
  unfold condW at h
  obtain ⟨h, h7⟩ := or_ne h
  obtain ⟨h, h6⟩ := or_ne h
  obtain ⟨h, h5⟩ := or_ne h
  obtain ⟨h, h4⟩ := or_ne h
  obtain ⟨h, h3⟩ := or_ne h
  obtain ⟨h, h2⟩ := or_ne h
  obtain ⟨h0, h1⟩ := or_ne h
  match g with
  | 0 => exact h0
  | 1 => exact h1
  | 2 => exact h2
  | 3 => exact h3
  | 4 => exact h4
  | 5 => exact h5
  | 6 => exact h6
  | 7 => exact h7

/-- A group that is not done and does not go on has no stick left. -/
theorem lost_of_stop (i : grid0.Coords) (v0 : Elt Ideal .f32) (hv : (v0 : EReal) ≠ ⊥) (it : BitVec 32) (x : Ideal .f32) (g : Fin 8)
    (hn : it.toNat ≤ (i 1).val * 8 + g.val) (h : goes (F := Ideal) i v0 it x g ≠ 1#1) : (x : EReal) = ⊥ := by
  have hi : (i 1).val < 16 := (i 1).isLt
  have hg := g.isLt
  unfold goes at h
  rw [jOf_nonneg i it g (by omega) hn] at h
  have h2 : ¬ (⊥ : EReal) < (x : EReal) + (v0 : EReal) := fun hlt => h (by
    have e : Scalar.cmpf (F := Ideal) .ogt (Scalar.addf x v0) (Named.named (F := Ideal) κ "zero_below" 0xC2D00000#32) = 1#1 := by
      show BitVec.ofBool (decide ((⊥ : EReal) < (x : EReal) + (v0 : EReal))) = 1#1
      rw [decide_eq_true hlt]; rfl
    rw [e]; rfl)
  rw [not_lt, le_bot_iff, EReal.add_eq_bot_iff] at h2
  exact h2.resolve_right hv

/-! ## The grid point -/

section Point

variable (q : S1024x128.Idx → EReal) (k v : S16384x128.Idx → EReal) (i1 : ℕ)

/-- A query's scores. -/
def zq (ρ : Fin 1024) (s : ℕ) : EReal := if h : s < 16384 then ∑ d : Fin 128, q (ix2 ρ d) * k (ix2 ⟨s, h⟩ d) else 0

/-- A column of the values. -/
def vcol (d : Fin 128) (s : ℕ) : EReal := if h : s < 16384 then v (ix2 ⟨s, h⟩ d) else 0

/-- The output's block: every query over all the keys before it. -/
def outBlk : S1024x128.Idx → EReal := fun y => outp (zq q k (y 0)) (vcol v (y 1)) (i1 * 1024 + (y 0).val) 0

/-- A group's query. -/
abbrev qrow (g : Fin 8) (r : Fin 128) : Fin 1024 := ⟨128 * g.val + r.val, by omega⟩

/-- Where a group's keys begin after `n` sweeps. -/
abbrev from' (g : Fin 8) (n : ℕ) : ℕ := 128 * (i1 * 8 + g.val + 1 - n)

/-- After `n` sweeps every group has the sums over the keys it has passed. -/
def Inv (c : Dev nD) (it : BitVec 32) (A : BA Ideal c) (R : BR Ideal c) (X : Fin 8 → Ideal .f32) : Prop :=
  1 ≤ it.toNat ∧ it.toNat ≤ i1 * 8 + 8 ∧ ∀ (g : Fin 8) (r : Fin 128),
    (∀ j : Fin 128, (rRow c R g (ix3 0 r j) : EReal) = tail (zq q k (qrow g r)) (i1 * 1024 + (128 * g.val + r.val)) (from' i1 g it.toNat))
    ∧ (∀ d : Fin 128, (aRow c A g (ix3 0 r d) : EReal)
        = outp (zq q k (qrow g r)) (vcol v d) (i1 * 1024 + (128 * g.val + r.val)) (from' i1 g it.toNat))
    ∧ ∀ j : Fin 128, (rRow c R g (ix3 0 r j) : EReal) ≤ X g

variable (c : Dev nD) (i : grid0.Coords)
  (M2 : Memref sig .tc .smem S1 .f32) (M3 : Memref sig .tc .vmem S1024x128 .bf16) (M4 M5 : Memref sig .tc .vmem S16384x128 .bf16)
  (M6 : Memref sig .tc .vmem S128x256 .bf16) (M7 : Memref sig .tc .vmem S1024x128 .bf16)
  (f2 : Bf Ideal c M2) (f3 : Bf Ideal c M3) (f4 : Bf Ideal c M4) (f5 : Bf Ideal c M5) (f6 : Bf Ideal c M6)
  (h3 : M3.view.read (Elt Ideal) f3 = q) (h4 : M4.view.read (Elt Ideal) f4 = k) (h5 : M5.view.read (Elt Ideal) f5 = v)

include h3 h4 in
/-- A block's scores, given where its keys stand. -/
theorem z_block (kk : Fin 8 → Vec Ideal S128x128 .bf16) (a : ℕ) (g : Fin 8) (ha : a + 128 ≤ 16384)
    (hk : ∀ (m d : Fin 128) (s : Fin 16384), s.val = a + m.val → kk g (ix2 m d) = M4.view.read (Elt Ideal) f4 (ix2 s d)) (r m : Fin 128) :
    (zOf (F := Ideal) (qOf c M3 f3 g) (kk g) (ix2 r m) : EReal) = zq q k (qrow g r) (a + m.val) := by
  have hm : a + m.val < 16384 := by omega
  rw [zOf_at]
  unfold zq
  rw [dif_pos hm]
  refine Finset.sum_congr rfl fun d _ => ?_
  refine congrArg₂ (fun x y : EReal => x * y) ?_ ?_
  · exact (qOf_at c M3 f3 g r d).trans (congrFun h3 _)
  · exact (hk m d ⟨a + m.val, hm⟩ rfl).trans (congrFun h4 _)

include h3 h4 in
/-- What its keys leave. -/
theorem ls_block (mk : IVec S128x128 1) (kk : Fin 8 → Vec Ideal S128x128 .bf16) (t a : ℕ) (g : Fin 8) (ha : a + 128 ≤ 16384)
    (hk : ∀ (m d : Fin 128) (s : Fin 16384), s.val = a + m.val → kk g (ix2 m d) = M4.view.read (Elt Ideal) f4 (ix2 s d)) (r m : Fin 128)
    (hmk : mk (ix2 r m) = 1#1 ↔ a + m.val < t) :
    (lsOf (F := Ideal) mk (zOf (qOf c M3 f3 g) (kk g)) (ix2 r m) : EReal) = loss (zq q k (qrow g r)) t (a + m.val) := by
  rw [lsOf_at, z_block q k c M3 M4 f3 f4 h3 h4 kk a g ha hk r m]
  unfold loss
  by_cases h : a + m.val < t
  · rw [if_pos h, if_pos (hmk.mpr h)]
  · rw [if_neg h, if_neg fun h' => h (hmk.mp h')]

include h3 h4 h5 in
/-- The kernel's sweeps keep the invariant, and at the end the output's block is every query's sum over all its keys. -/
theorem keeps (hu : IsOnes (uOf c M6 f6)) (hzb : (zbOf c M2 f2 : EReal) ≠ ⊥) :
    Keeps (F := Ideal) c i M2 M3 M4 M5 M6 M7 f2 f3 f4 f5 f6 (· = outBlk q k v (i 1).val) := by
  have hi : (i 1).val < 16 := (i 1).isLt
  intro f7 A R
  refine ⟨Inv q k v (i 1).val c, ⟨by decide, by show 1 ≤ _; omega, fun g r => ?_⟩, ?_, ?_⟩
  · -- the first sweep
    have hg := g.isLt
    have hr := r.isLt
    have e : from' (i 1).val g (1#32 : BitVec 32).toNat = ((i 1).val * 8 + g.val) * 128 := by
      show 128 * ((i 1).val * 8 + g.val + 1 - 1) = _
      omega
    have ha : ((i 1).val * 8 + g.val) * 128 + 128 ≤ 16384 := by omega
    have hk := fun (m d : Fin 128) (s : Fin 16384) (hs : s.val = ((i 1).val * 8 + g.val) * 128 + m.val) => kOf1_at c i M4 f4 g m d s hs
    have hmk : ∀ m : Fin 128, mk1 (ix2 r m) = 1#1 ↔ ((i 1).val * 8 + g.val) * 128 + m.val < (i 1).val * 1024 + (128 * g.val + r.val) := fun m => by
      rw [mk1_at]; omega
    have hl := fun m : Fin 128 => ls_block q k c M3 M4 f3 f4 h3 h4 mk1 (kOf1 c i M4 f4) _ _ g ha hk r m (hmk m)
    have h0 : ∀ j : Fin 128, (rIn c i M3 M4 M6 f3 f4 f6 g (ix3 0 r j) : EReal)
        = tail (zq q k (qrow g r)) ((i 1).val * 1024 + (128 * g.val + r.val)) (((i 1).val * 8 + g.val) * 128 + 128) := fun j => by
      rw [tail_unseen _ _ (by omega)]; exact rIn_at c i M3 M4 M6 f3 f4 f6 g r j
    have hrun : ∀ j : Fin 128, (rRow c (firstR c i M3 M4 M6 f3 f4 f6 R) g (ix3 0 r j) : EReal)
        = tail (zq q k (qrow g r)) ((i 1).val * 1024 + (128 * g.val + r.val)) (((i 1).val * 8 + g.val) * 128) := fun j =>
      (firstR_at c i M3 M4 M6 f3 f4 f6 R g r j).trans (run_step hu (g := g) (r := r) hl ha _ j (h0 j))
    refine ⟨fun j => by rw [e]; exact hrun j, fun d => ?_, fun j => ?_⟩
    · rw [e]
      obtain ⟨a0, ha0, ea⟩ := firstA_at c i M3 M4 M5 M6 f3 f4 f5 f6 A g r d
      refine ea.trans (acc_step _ hu (g := g) (r := r) hl ha mk1 hmk _ (fun m => z_block q k c M3 M4 f3 f4 h3 h4 (kOf1 c i M4 f4) _ g ha hk r m)
        _ _ _ d h0 (fun m => ?_) ?_)
      · have hm : ((i 1).val * 8 + g.val) * 128 + m.val < 16384 := by omega
        rw [vcol, dif_pos hm]
        exact (kOf1_at c i M5 f5 g m d ⟨_, hm⟩ rfl).trans (congrFun h5 _)
      · rw [outp_unseen _ _ _ (by omega)]; exact ha0 r d
    · rw [firstR_at]
      exact le_maxOf _ _ r j
  · -- a later sweep
    intro it A R X hchk h1 hle hc ⟨_, hn8, hI⟩
    have hs : (Scalar.addi it 1#32).toNat = it.toNat + 1 := by
      show (it + 1#32).toNat = _
      rw [BitVec.toNat_add]
      show (it.toNat + 1) % 2 ^ 32 = _
      omega
    refine ⟨by omega, by omega, fun g r => ?_⟩
    have hg := g.isLt
    have hr := r.isLt
    obtain ⟨hR, hA, hX⟩ := hI g r
    rw [hs]
    have hmax : ∀ j : Fin 128, (rRow c (newR c (uOf c M6 f6) (mkOf i it) (qOf c M3 f3) (kOf c i M4 it hchk f4) R) g (ix3 0 r j) : EReal)
        ≤ newX c (uOf c M6 f6) (mkOf i it) (qOf c M3 f3) (kOf c i M4 it hchk f4) R g := fun j => by
      unfold newR newX
      rw [rRow_put]
      exact le_maxOf _ _ r j
    by_cases hb : it.toNat ≤ (i 1).val * 8 + g.val
    · -- one block further left
      have e1 : from' (i 1).val g it.toNat = ((i 1).val * 8 + g.val - it.toNat) * 128 + 128 := by
        show 128 * ((i 1).val * 8 + g.val + 1 - it.toNat) = _
        omega
      have e2 : from' (i 1).val g (it.toNat + 1) = ((i 1).val * 8 + g.val - it.toNat) * 128 := by
        show 128 * ((i 1).val * 8 + g.val + 1 - (it.toNat + 1)) = _
        omega
      rw [e1] at hR hA
      rw [e2]
      have ha : ((i 1).val * 8 + g.val - it.toNat) * 128 + 128 ≤ 16384 := by omega
      have hk := fun (m d : Fin 128) (s : Fin 16384) (hs : s.val = ((i 1).val * 8 + g.val - it.toNat) * 128 + m.val) =>
        kOf_at c i M4 f4 it hchk (by omega) g m d s hs
      have hmk : ∀ m : Fin 128, mkOf i it g (ix2 r m) = 1#1 ↔
          ((i 1).val * 8 + g.val - it.toNat) * 128 + m.val < (i 1).val * 1024 + (128 * g.val + r.val) := fun m => by
        have hm := m.isLt
        refine iff_of_true ?_ (by omega)
        exact jOf_nonneg i it g (by omega) hb
      have hl := fun m : Fin 128 => ls_block q k c M3 M4 f3 f4 h3 h4 (mkOf i it g) (kOf c i M4 it hchk f4) _ _ g ha hk r m (hmk m)
      refine ⟨fun j => ?_, fun d => ?_, hmax⟩
      · unfold newR
        rw [rRow_put]
        exact run_step hu (g := g) (r := r) hl ha _ j (hR j)
      · unfold newA
        rw [aRow_put]
        refine acc_step _ hu (g := g) (r := r) hl ha (mkOf i it g) hmk _ (fun m => z_block q k c M3 M4 f3 f4 h3 h4 (kOf c i M4 it hchk f4) _ g ha hk r m)
          _ _ _ d hR (fun m => ?_) (hA d)
        have hm : ((i 1).val * 8 + g.val - it.toNat) * 128 + m.val < 16384 := by omega
        rw [vcol, dif_pos hm]
        exact (kOf_at c i M5 f5 it hchk (by omega) g m d ⟨_, hm⟩ rfl).trans (congrFun h5 _)
    · -- a group that is done
      have e1 : from' (i 1).val g (it.toNat + 1) = from' (i 1).val g it.toNat := by
        show 128 * ((i 1).val * 8 + g.val + 1 - (it.toNat + 1)) = 128 * ((i 1).val * 8 + g.val + 1 - it.toNat)
        omega
      rw [e1]
      have hmk : ∀ m : Fin 128, mkOf i it g (ix2 r m) ≠ 1#1 := fun m => by
        have h := jOf_neg i it g (by omega) (by omega)
        show Scalar.cmpi .sge (jOf i it g) 0#32 ≠ 1#1
        rw [h]; decide
      have hl : ∀ m : Fin 128, (lsOf (F := Ideal) (mkOf i it g) (zOf (qOf c M3 f3 g) (kOf c i M4 it hchk f4 g)) (ix2 r m) : EReal) = 0 := fun m => by
        rw [lsOf_at, if_neg (hmk m)]
      refine ⟨fun j => ?_, fun d => ?_, hmax⟩
      · unfold newR
        rw [rRow_put]
        exact (run_done hu (ls := fun g => lsOf (mkOf i it g) (zOf (qOf c M3 f3 g) (kOf c i M4 it hchk f4 g))) (g := g) (r := r) hl _ j).trans (hR j)
      · unfold newA
        rw [aRow_put]
        exact (acc_done (mkOf i it g) hmk _ _ _ _ _ d).trans (hA d)
  · -- the end
    intro it A R X ⟨h1, hn8, hI⟩ hc
    funext y
    idx_vars y
    obtain ⟨g, r, hy⟩ : ∃ (g : Fin 8) (r : Fin 128), y0 = qrow g r :=
      ⟨⟨y0.val / 128, by omega⟩, ⟨y0.val % 128, by omega⟩, Fin.ext (by show y0.val = 128 * (y0.val / 128) + y0.val % 128; omega)⟩
    subst hy
    obtain ⟨hR, hA, hX⟩ := hI g r
    refine (putO_at c M7 f7 A g r y1).trans ((hA y1).trans ?_)
    show outp (zq q k (qrow g r)) (vcol v y1) ((i 1).val * 1024 + (128 * g.val + r.val)) (from' (i 1).val g it.toNat)
      = outp (zq q k (qrow g r)) (vcol v y1) ((i 1).val * 1024 + (128 * g.val + r.val)) 0
    have hg := g.isLt
    by_cases hb : it.toNat ≤ (i 1).val * 8 + g.val
    · have hx := lost_of_stop i _ hzb it (X g) g hb (stop_of_cond i _ it X hc g)
      refine (outp_lost _ _ _ (by show 128 * ((i 1).val * 8 + g.val + 1 - it.toNat) ≤ 16384; omega) ?_).symm
      rw [← hR 0]
      exact le_bot_iff.mp ((hX 0).trans hx.le)
    · have e : from' (i 1).val g it.toNat = 0 := by
        show 128 * ((i 1).val * 8 + g.val + 1 - it.toNat) = 0
        omega
      rw [e]

end Point

end Cert.KernelIdeal.Attn

end
-- ==== Proof.Attn.Host.lean ====
module

public import proofs.«01_k».proof.Proof.Attn.Args
public import proofs.«01_k».proof.Proof.Attn.Keeps
public import Idealize.ShloMosaic.Lib.IdealHost
public import Idealize.ShloMosaic.Lib.Pipeline.ValueKit

@[expose] public section

set_option maxRecDepth 16384

noncomputable section

/-! # What the call is given: the matrix of ones and the bound on the scores -/

namespace Cert.KernelIdeal.Attn

open Cert.KernelIdeal Cert.KernelIdeal.Gen

open Idealize.ShloMosaic Idealize.ShloMosaic.TcCoe Idealize.SL.Sem Idealize.ShloMosaic.StableHlo

variable (m : (ℓ : Loc nD τ sig) → Buf (Elt Ideal) ℓ)

/-- The matrix of ones, as the host computes it. -/
def onesV : FVec Ideal S128x256 .bf16 :=
  truncf .bf16 (select (ori (cmpi .sge (iotaInDim S128x256 32 0) (iotaInDim S128x256 32 1))
      (cmpi .sge (iotaInDim S128x256 32 1) (broadcastInDim S128x256 ![] bcast_S_S128x256 (constantI S_ 32 128#32))))
    (broadcastInDim S128x256 ![] bcast_S_S128x256 (constant (F := Ideal) S_ .f32 0x3F800000#32))
    (broadcastInDim S128x256 ![] bcast_S_S128x256 (constant (F := Ideal) S_ .f32 0x00000000#32))) bitsLt_bf16_f32

theorem V_ones (c : Dev nD) : V m c main_v14 = onesV := by
  show after (hostOps (F := Ideal)).flatten (fun b => m (c, b)) main_v14 = _
  simp only [hostOps, hostOps0, hostOps0_1, hostOps0_2, List.flatten_cons, List.flatten_nil, List.cons_append, List.nil_append, TRef.binary, TRef.nullary, TRef.ternary, TRef.unary, TRef.toBuf, TRef.ofBuf, cast_eq]
  after_results_simp <;> rfl

theorem ones_word (a : Fin 128) (j : Fin 256) :
    IntOp.ori (IntOp.cmpi .sge (BitVec.ofNat 32 a.val) (BitVec.ofNat 32 j.val)) (IntOp.cmpi .sge (BitVec.ofNat 32 j.val) 128#32) = 1#1
      ↔ j.val ≤ a.val ∨ 128 ≤ j.val := by
  revert a j
  decide +kernel

theorem onesV_at (a : Fin 128) (j : Fin 256) : (onesV (ix2 a j) : EReal) = if j.val ≤ a.val ∨ 128 ≤ j.val then 1 else 0 := by
  unfold onesV
  pointwise
  unfold Scalar.select
  by_cases h : j.val ≤ a.val ∨ 128 ≤ j.val
  · rw [if_pos h]; exact if_pos ((ones_word a j).mpr h)
  · rw [if_neg h]; exact if_neg fun h' => h ((ones_word a j).mp h')

/-- The bound on the scores, as the host computes it. -/
def boundV (x y : FVec Ideal S128 .f32) : FVec Ideal S1 .f32 :=
  shapeCast S1 (mulf (mulf (constant (F := Ideal) S_ .f32 0x4138A3C5#32)
      (Host.reduce FloatOps.maximumf (Host.absf x) (constant (F := Ideal) S_ .f32 0xFF800000#32) reducesTo_S128_S_d0 h_S_))
    (Host.reduce FloatOps.maximumf (Host.absf y) (constant (F := Ideal) S_ .f32 0xFF800000#32) reducesTo_S128_S_d0 h_S_)) shapeCasts_S_S1

theorem V_bound (c : Dev nD) : V m c main_v6 = boundV (m ((c.tc : Thread nD τ).loc main_arg1)) (m ((c.tc : Thread nD τ).loc main_arg2)) := by
  show after (hostOps (F := Ideal)).flatten (fun b => m (c, b)) main_v6 = _
  simp only [hostOps, hostOps0, hostOps0_1, hostOps0_2, List.flatten_cons, List.flatten_nil, List.cons_append, List.nil_append, TRef.binary, TRef.nullary, TRef.ternary, TRef.unary, TRef.toBuf, TRef.ofBuf, cast_eq]
  after_results_simp <;> rfl

/-- The greatest of absolute values is not negative. -/
theorem max_abs_nonneg (b : EReal) (x : FVec Ideal S128 .f32) :
    (0 : EReal) ≤ Finset.fold max b (fun k : Fin 128 => (FloatOps.absf (x (ix1 k)) : EReal)) Finset.univ := by
  rw [Finset.le_fold_max]
  refine Or.inr ⟨0, Finset.mem_univ _, ?_⟩
  show (0 : EReal) ≤ max (x (ix1 0) : EReal) (-(x (ix1 0) : EReal))
  rcases le_total 0 (x (ix1 0) : EReal) with h | h
  · exact h.trans (le_max_left _ _)
  · exact (EReal.neg_nonneg.mpr h).trans (le_max_right _ _)

theorem const_nonneg : (0 : EReal) ≤ Ideal.ofBits .f32 0x4138A3C5#32 := by
  simp [Ideal.ofBits, Ideal.ieee, -EReal.coe_mul]

/-- The bound is not minus infinity. -/
theorem boundV_ne (x y : FVec Ideal S128 .f32) : (boundV x y (ix1 0) : EReal) ≠ ⊥ := by
  have h := mul_nonneg (mul_nonneg const_nonneg (max_abs_nonneg (Ideal.ofBits .f32 0xFF800000#32) x)) (max_abs_nonneg (Ideal.ofBits .f32 0xFF800000#32) y)
  unfold boundV
  pointwise
  exact (lt_of_lt_of_le EReal.bot_lt_zero h).ne'

end Cert.KernelIdeal.Attn

end
-- ==== Proof.Attn.Reference.lean ====
module

public import proofs.«01_k».proof.Proof.Gen.ReferenceIdeal.Run
public import proofs.«01_k».proof.Proof.Attn.Math
public import Idealize.ShloMosaic.Lib.Pointwise
public import Idealize.ShloMosaic.Lib.Pipeline.Value

@[expose] public section

set_option maxRecDepth 16384

noncomputable section

/-! # The reference, entry by entry -/

namespace Cert.ReferenceIdeal.Attn

open Cert.ReferenceIdeal Cert.ReferenceIdeal.Gen Cert.Stick

open Idealize.ShloMosaic Idealize.ShloMosaic.TcCoe

/-! ## The steps -/

/-- Zero everywhere. -/
def zeros : FVec Ideal S8x16384x16384 .f32 := broadcastInDim S8x16384x16384 ![] bcast_S_S8x16384x16384 (constant (F := Ideal) S_ .f32 0x00000000#32)

/-- A third of the projection's columns, by heads. -/
def part (A : FVec Ideal S16384x3072 .bf16) (off : Fin 2 → ℕ) (h : S16384x3072.Slices off S16384x1024) : FVec Ideal S8x16384x128 .f32 :=
  transpose S8x16384x128 [1, 0, 2] (shapeCast S16384x8x128 (extractStridedSlice S16384x1024 off (extf .f32 A bitsLt_bf16_f32) h) shapeCasts_S16384x1024_S16384x8x128)
    transposes_S16384x8x128_S8x16384x128_1_0_2

/-- The scores. -/
def scores (A : FVec Ideal S16384x3072 .bf16) : FVec Ideal S8x16384x16384 .f32 :=
  Host.dotGeneral dot_S8x16384x128_S8x16384x128_S8x16384x16384_2_2_1_1_0_0 none (part A ![0, 0] slices_S16384x3072_S16384x1024_0_0)
    (part A ![0, 1024] slices_S16384x3072_S16384x1024_0_1024)

/-- The keys before each query. -/
def seen : IVec S8x16384x16384 1 :=
  broadcastInDim S8x16384x16384 ![1, 2] bcast_S16384x16384_S8x16384x16384_1_2 (cmpi .slt (iotaInDim S16384x16384 32 1) (iotaInDim S16384x16384 32 0))

/-- The log of the sigmoid. -/
def lsig (x : FVec Ideal S8x16384x16384 .f32) : FVec Ideal S8x16384x16384 .f32 :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- What each key leaves. -/
def stays (z : FVec Ideal S8x16384x16384 .f32) : FVec Ideal S8x16384x16384 .f32 :=
  select seen (lsig (Host.negf z)) (broadcastInDim S8x16384x16384 ![] bcast_S_S8x16384x16384 (id (constant (F := Ideal) S_ .f32 0x00000000#32)))

/-- Sums over the keys from each key on. -/
def sums (x : FVec Ideal S8x16384x16384 .f32) : FVec Ideal S8x16384x16384 .f32 :=
  Host.reduceWindowAdd ![1, 1, 16384] ![1, 1, 1] ![0, 0, 0] ![0, 0, 16383] x
    (broadcastInDim S_ ![] bcast_S_S_ (constant (F := Ideal) S_ .f32 0x00000000#32))
    reduceWindows_S8x16384x16384_S8x16384x16384_w1s1p0_0_w1s1p0_0_w16384s1p0_16383 h_S_

/-- The weights. -/
def weights (z : FVec Ideal S8x16384x16384 .f32) : FVec Ideal S8x16384x16384 .f32 :=
  select seen (Host.exp (addf (lsig z) (subf (sums (stays z)) (stays z))))
    (broadcastInDim S8x16384x16384 ![] bcast_S_S8x16384x16384 (id (constant (F := Ideal) S_ .f32 0x00000000#32)))

/-- The whole reference. -/
def whole (A : FVec Ideal S16384x3072 .bf16) : FVec Ideal S16384x1024 .bf16 :=
  truncf .bf16 (shapeCast S16384x1024 (transpose S16384x8x128 [1, 0, 2]
    (Host.dotGeneral dot_S8x16384x16384_S8x16384x128_S8x16384x128_2_1_1_2_0_0 none (weights (scores A)) (part A ![0, 2048] slices_S16384x3072_S16384x1024_0_2048))
    transposes_S8x16384x128_S16384x8x128_1_0_2) shapeCasts_S16384x8x128_S16384x1024) bitsLt_bf16_f32

theorem res_eq (m : (ℓ : Loc nD τ sig) → Buf (Elt Ideal) ℓ) (c : Dev nD) :
    Value.res_main_v26 (F := Ideal) m c = whole (m ((c.tc : Thread nD τ).loc main_arg0)) := by
  unfold Value.res_main_v26 whole weights sums stays lsig seen scores part zeros
  rfl

/-! ## Entry by entry -/

theorem part_at (A : FVec Ideal S16384x3072 .bf16) (o : ℕ) (h : S16384x3072.Slices ![0, o] S16384x1024) (ho : o + 1024 ≤ 3072) (a : Fin 8) (t : Fin 16384) (d : Fin 128) :
    part A ![0, o] h (ix3 a t d) = A (ix2 t ⟨o + a.val * 128 + d.val, by omega⟩) := by
  unfold part
  pointwise
  exact congrArg (fun u => A (ix2 t u)) (Fin.ext (Nat.add_assoc _ _ _).symm)

theorem scores_at (A : FVec Ideal S16384x3072 .bf16) (a : Fin 8) (t s : Fin 16384) :
    scores A (ix3 a t s) = ∑ d : Fin 128, (part A ![0, 0] slices_S16384x3072_S16384x1024_0_0 (ix3 a t d) : EReal)
      * (part A ![0, 1024] slices_S16384x3072_S16384x1024_0_1024 (ix3 a s d) : EReal) := by
  unfold scores
  pointwise

theorem lt_word (s t : Fin 16384) : IntOp.cmpi .slt (BitVec.ofNat 32 s.val) (BitVec.ofNat 32 t.val) = 1#1 ↔ s.val < t.val := by
  have e : ∀ u : Fin 16384, (BitVec.ofNat 32 u.val).toInt = u.val := fun u => by
    rw [BitVec.toInt_eq_toNat_of_lt] <;> rw [BitVec.toNat_ofNat, Nat.mod_eq_of_lt] <;> omega
  show BitVec.ofBool ((BitVec.ofNat 32 s.val).slt (BitVec.ofNat 32 t.val)) = 1#1 ↔ _
  rw [BitVec.slt_eq_decide, e, e]
  by_cases h : s.val < t.val
  · simp [h]
  · simp [h]

theorem seen_at (a : Fin 8) (t s : Fin 16384) : seen (ix3 a t s) = 1#1 ↔ s.val < t.val := by
  rw [← lt_word s t]
  unfold seen
  pointwise

theorem lsig_at (x : FVec Ideal S8x16384x16384 .f32) (a : Fin 8) (t s : Fin 16384) : lsig x (ix3 a t s) = took (x (ix3 a t s)) := by
  unfold lsig zeros took
  pointwise
  rw [if_neg fun h => h rfl]
  rfl

theorem stays_at (z : FVec Ideal S8x16384x16384 .f32) (a : Fin 8) (t s : Fin 16384) :
    stays z (ix3 a t s) = if s.val < t.val then left (z (ix3 a t s)) else 0 := by
  have e1 : (lsig (Host.negf z) (ix3 a t s) : EReal) = left (z (ix3 a t s)) := by
    rw [lsig_at, took_eq]
    show left (- -(z (ix3 a t s) : EReal)) = _
    rw [neg_neg]
  have e0 : (id (constant (F := Ideal) S_ .f32 0x00000000#32) ix0 : EReal) = 0 := by
    show Ideal.ofBits .f32 0x00000000#32 = 0
    simp [Ideal.ofBits, Ideal.ieee]
  unfold stays
  pointwise
  rw [e1, e0]
  unfold Scalar.select
  by_cases h : s.val < t.val
  · rw [if_pos h]; exact if_pos ((seen_at a t s).mpr h)
  · rw [if_neg h]; exact if_neg fun h' => h ((seen_at a t s).mp h')

theorem weights_at (z : FVec Ideal S8x16384x16384 .f32) (a : Fin 8) (t s : Fin 16384) :
    weights z (ix3 a t s) = if s.val < t.val then Ideal.exp (took (z (ix3 a t s)) + ((sums (stays z) (ix3 a t s) : EReal) - stays z (ix3 a t s))) else 0 := by
  have e0 : (id (constant (F := Ideal) S_ .f32 0x00000000#32) ix0 : EReal) = 0 := by
    show Ideal.ofBits .f32 0x00000000#32 = 0
    simp [Ideal.ofBits, Ideal.ieee]
  unfold weights
  pointwise
  rw [lsig_at, e0]
  unfold Scalar.select
  by_cases h : s.val < t.val
  · rw [if_pos h]; exact if_pos ((seen_at a t s).mpr h)
  · rw [if_neg h]; exact if_neg fun h' => h ((seen_at a t s).mp h')

theorem whole_at (A : FVec Ideal S16384x3072 .bf16) (a : Fin 8) (t : Fin 16384) (d : Fin 128) :
    whole A (ix2 t ⟨a.val * 128 + d.val, by omega⟩)
      = ∑ s : Fin 16384, (weights (scores A) (ix3 a t s) : EReal) * (part A ![0, 2048] slices_S16384x3072_S16384x1024_0_2048 (ix3 a s d) : EReal) := by
  unfold whole
  pointwise

/-! ## The sums from each key on -/

/-- A fold that adds a term at each step is the sum of the terms. -/
theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- A sum over a window, by the places of the window. -/
theorem window_sum {s t u : Shape} (window strides lo hi : Fin s.rank → Nat) (x : s.Idx → EReal) (init : u.Idx → EReal) (h : s.ReduceWindows window strides lo hi t)
    (hu : 0 < u.numel) (hv : init (Shape.Idx.first hu) = 0) (j : t.Idx) :
    Host.reduceWindow (fun r y : EReal => r + y) window strides lo hi x init h hu j
      = ∑ w : Shape.Idx ⟨s.rank, window⟩, if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Host.reduceWindow
  dsimp only
  rw [foldl_add, hv, zero_add, ← Fin.sum_univ_def]
  refine (Finset.sum_congr rfl fun n _ => ?_).trans (Equiv.sum_comp (Shape.rowMajor ⟨s.rank, window⟩).symm (fun w : Shape.Idx ⟨s.rank, window⟩ =>
    if hin : ∀ a, lo a ≤ (j (a.cast h.1.symm)).val * strides a + (w a).val ∧ (j (a.cast h.1.symm)).val * strides a + (w a).val - lo a < s.size a
    then x (fun a => ⟨(j (a.cast h.1.symm)).val * strides a + (w a).val - lo a, (hin a).2⟩) else 0))
  exact dite_congr rfl (fun _ => rfl) fun _ => rfl

/-- The same of the reference's operation. -/
theorem window_add {s t u : Shape} (window strides lo hi : Fin s.rank → Nat) (x : FVec Ideal s .f32) (init : u.Idx → Ideal .f32)
    (h : s.ReduceWindows window strides lo hi t) (hu : 0 < u.numel) (hv : (init (Shape.Idx.first hu) : EReal) = 0) (j : t.Idx) :
    (Host.reduceWindowAdd window strides lo hi x init h hu j : EReal)
      = ∑ w : Shape.Idx ⟨s.rank, window⟩, if hin : ∀ a, lo a ≤ (j (a.cast h.1.symm)).val * strides a + (w a).val
          ∧ (j (a.cast h.1.symm)).val * strides a + (w a).val - lo a < s.size a
        then (x (fun a => ⟨(j (a.cast h.1.symm)).val * strides a + (w a).val - lo a, (hin a).2⟩) : EReal) else 0 :=
  window_sum window strides lo hi x (fun _ : (⟨0, ![]⟩ : Shape).Idx => (init (Shape.Idx.first hu) : EReal)) h (by decide) hv j

/-- The window: every key. -/
abbrev Win : Shape := ⟨3, ![1, 1, 16384]⟩

/-- A place in the window is a key. -/
def winEquiv : Fin 16384 ≃ Win.Idx where
  toFun n := ix3 0 0 n
  invFun w := w 2
  right_inv w := by
    funext b
    match b with
    | ⟨0, _⟩ => exact Fin.ext (show 0 = (w 0).val from (Nat.lt_one_iff.mp (w 0).isLt).symm)
    | ⟨1, _⟩ => exact Fin.ext (show 0 = (w 1).val from (Nat.lt_one_iff.mp (w 1).isLt).symm)
    | ⟨2, _⟩ => rfl
  left_inv n := rfl

/-- The sum over the window is the sum over the keys from `s` on. -/
theorem sums_at (x : FVec Ideal S8x16384x16384 .f32) (a : Fin 8) (t s : Fin 16384) (f : ℕ → EReal) (hf : ∀ u : Fin 16384, (x (ix3 a t u) : EReal) = f u.val) :
    (sums x (ix3 a t s) : EReal) = ∑ u ∈ Finset.Ico s.val 16384, f u := by
  have hv : (broadcastInDim S_ ![] bcast_S_S_ (constant (F := Ideal) S_ .f32 0x00000000#32) (Shape.Idx.first h_S_) : EReal) = 0 := by
    show Ideal.ofBits .f32 0x00000000#32 = 0
    simp [Ideal.ofBits, Ideal.ieee]
  have hs := s.isLt
  unfold sums
  refine (window_add _ _ _ _ _ _ _ _ hv _).trans ?_
  refine (Equiv.sum_comp winEquiv _).symm.trans ?_
  have e : ∑ n : Fin 16384, (if s.val + n.val < 16384 then f (s.val + n.val) else 0) = ∑ u ∈ Finset.Ico s.val 16384, f u := by
    refine (sum_block (fun u => if u < 16384 then f u else 0) s.val 16384).trans ?_
    rw [← Finset.sum_Ico_consecutive _ (show s.val ≤ 16384 by omega) (show 16384 ≤ s.val + 16384 by omega)]
    refine (congrArg₂ (· + ·) (Finset.sum_congr rfl fun u hu => ?_) (Finset.sum_eq_zero fun u hu => ?_)).trans (add_zero _)
    · rw [Finset.mem_Ico] at hu; exact if_pos hu.2
    · rw [Finset.mem_Ico] at hu; exact if_neg (by omega)
  refine Eq.trans (Finset.sum_congr rfl fun n _ => ?_) e
  by_cases h : s.val + n.val < 16384
  · rw [if_pos h, ← hf ⟨s.val + n.val, h⟩]
    refine (dif_pos fun b => ?_).trans (congrArg x (funext fun b => Fin.ext ?_))
    · match b with
      | ⟨0, _⟩ => exact ⟨Nat.zero_le _, show a.val * 1 + 0 - 0 < 8 by omega⟩
      | ⟨1, _⟩ => exact ⟨Nat.zero_le _, show t.val * 1 + 0 - 0 < 16384 by omega⟩
      | ⟨2, _⟩ => exact ⟨Nat.zero_le _, show s.val * 1 + n.val - 0 < 16384 by omega⟩
    · match b with
      | ⟨0, _⟩ => show a.val * 1 + 0 - 0 = a.val; omega
      | ⟨1, _⟩ => show t.val * 1 + 0 - 0 = t.val; omega
      | ⟨2, _⟩ => show s.val * 1 + n.val - 0 = s.val + n.val; omega
  · rw [if_neg h]
    refine dif_neg fun hin => ?_
    have h2 : s.val * 1 + n.val - 0 < 16384 := (hin (2 : Fin 3)).2
    omega

/-! ## The reference's value -/

/-- One query's scores against the keys of its head. -/
def zr (A : FVec Ideal S16384x3072 .bf16) (a : Fin 8) (t : Fin 16384) (s : ℕ) : EReal :=
  if h : s < 16384 then ∑ d : Fin 128, (A (ix2 t ⟨a.val * 128 + d.val, by omega⟩) : EReal) * (A (ix2 ⟨s, h⟩ ⟨1024 + a.val * 128 + d.val, by omega⟩) : EReal) else 0

/-- A column of the head's values. -/
def vr (A : FVec Ideal S16384x3072 .bf16) (a : Fin 8) (d : Fin 128) (s : ℕ) : EReal :=
  if h : s < 16384 then (A (ix2 ⟨s, h⟩ ⟨2048 + a.val * 128 + d.val, by omega⟩) : EReal) else 0

theorem scores_eq (A : FVec Ideal S16384x3072 .bf16) (a : Fin 8) (t s : Fin 16384) : (scores A (ix3 a t s) : EReal) = zr A a t s.val := by
  rw [scores_at, zr, dif_pos s.isLt]
  refine Finset.sum_congr rfl fun d _ => ?_
  have e : part A ![0, 0] slices_S16384x3072_S16384x1024_0_0 (ix3 a t d) = A (ix2 t ⟨a.val * 128 + d.val, by omega⟩) :=
    (part_at A 0 _ (by omega) a t d).trans (congrArg (fun u => A (ix2 t u)) (Fin.ext (by show 0 + a.val * 128 + d.val = a.val * 128 + d.val; omega)))
  rw [e, part_at A 1024 _ (by omega)]

theorem weights_eq (A : FVec Ideal S16384x3072 .bf16) (a : Fin 8) (t s : Fin 16384) :
    (weights (scores A) (ix3 a t s) : EReal) = wt (zr A a t) t.val s.val := by
  have hl : ∀ u : Fin 16384, (stays (scores A) (ix3 a t u) : EReal) = loss (zr A a t) t.val u.val := fun u => by
    rw [stays_at, scores_eq]; rfl
  rw [weights_at, wt_eq _ _ s.isLt, sums_at _ a t s _ hl, hl s, scores_eq]
  rfl

/-- The reference: each query's weighted sum of the values of the keys before it. -/
theorem whole_eq (A : FVec Ideal S16384x3072 .bf16) (a : Fin 8) (t : Fin 16384) (d : Fin 128) :
    (whole A (ix2 t ⟨a.val * 128 + d.val, by omega⟩) : EReal) = outp (zr A a t) (vr A a d) t.val 0 := by
  rw [whole_at]
  unfold outp
  have e := sum_block (fun u => wt (zr A a t) t.val u * vr A a d u) 0 16384
  rw [Nat.zero_add] at e
  rw [← e]
  refine Finset.sum_congr rfl fun s _ => ?_
  rw [Nat.zero_add, weights_eq, part_at A 2048 _ (by omega), vr, dif_pos s.isLt]

end Cert.ReferenceIdeal.Attn

end
-- ==== Proof.Attn.Value.lean ====
module

public import proofs.«01_k».proof.Proof.Attn.Host
public import proofs.«01_k».proof.Proof.Attn.Reference

@[expose] public section

set_option maxRecDepth 16384

noncomputable section

/-! # The kernel's result array -/

namespace Cert.KernelIdeal.Attn

open Cert.KernelIdeal Cert.KernelIdeal.Gen Cert.Stick

open Idealize.ShloMosaic Idealize.ShloMosaic.TcCoe Idealize.SL.Sem

variable (m : (ℓ : Loc nD τ sig) → Buf (Elt Ideal) ℓ)

/-! ## The blocks' places -/

/-- The bound has one block. -/
theorem index0 : ∀ t : Fin grid0.N, win0_0.index t = ![0] := by decide +kernel
/-- The queries' block: row group and head. -/
theorem index1 : ∀ t : Fin grid0.N, win0_1.index t = ![(grid0.coords t 1).val, (grid0.coords t 0).val] := by decide +kernel
/-- The keys' block: all rows, of the head. -/
theorem index2 : ∀ t : Fin grid0.N, win0_2.index t = ![0, 8 + (grid0.coords t 0).val] := by decide +kernel
/-- The values' block: all rows, of the head. -/
theorem index3 : ∀ t : Fin grid0.N, win0_3.index t = ![0, 16 + (grid0.coords t 0).val] := by decide +kernel
/-- The matrix of ones has one block. -/
theorem index4 : ∀ t : Fin grid0.N, win0_4.index t = ![0, 0] := by decide +kernel
/-- The result's block: row group and head. -/
theorem index5 : ∀ t : Fin grid0.N, win0_5.index t = ![(grid0.coords t 1).val, (grid0.coords t 0).val] := by decide +kernel

/-- The head of a grid point. -/
abbrev hd (t : Fin grid0.N) : Fin 8 := ⟨(grid0.coords t 0).val, (grid0.coords t 0).isLt⟩

/-- The row group of a grid point. -/
abbrev rg (t : Fin grid0.N) : Fin 16 := ⟨(grid0.coords t 1).val, (grid0.coords t 1).isLt⟩

/-- The projection. -/
abbrev proj (c : Dev nD) : S16384x3072.Idx → EReal := m ((c.tc : Thread nD τ).loc main_arg0)

/-- The point's queries. -/
def qB (A : S16384x3072.Idx → EReal) (h : Fin 8) (i : Fin 16) : S1024x128.Idx → EReal := fun y =>
  A (ix2 ⟨i.val * 1024 + (y 0).val, by have := (y 0).isLt; have := i.isLt; change (y 0).val < 1024 at *; omega⟩
    ⟨h.val * 128 + (y 1).val, by have := (y 1).isLt; have := h.isLt; change (y 1).val < 128 at *; omega⟩)

/-- A head's columns from `o` on. -/
def kB (A : S16384x3072.Idx → EReal) (o : ℕ) (ho : o ≤ 2048) (h : Fin 8) : S16384x128.Idx → EReal := fun y =>
  A (ix2 (y 0) ⟨o + h.val * 128 + (y 1).val, by have := (y 1).isLt; have := h.isLt; change (y 1).val < 128 at *; omega⟩)

/-- The queries that a point reads. -/
theorem iblk1 (c : Dev nD) (t : Fin grid0.N) : iblk m c 1 t = qB (proj m c) (hd t) (rg t) := by
  funext y
  idx_vars y
  have e := index1 t
  show iblk m c 1 t (ix2 y0 y1) = _
  blk_simp [iblk, e]
  refine (congrFun (V_arg0 m c) _).trans (congrArg (proj m c) ?_)
  blk_ext [e]

/-- The keys that a point reads. -/
theorem iblk2 (c : Dev nD) (t : Fin grid0.N) : iblk m c 2 t = kB (proj m c) 1024 (by omega) (hd t) := by
  funext y
  idx_vars y
  have e := index2 t
  show iblk m c 2 t (ix2 y0 y1) = _
  blk_simp [iblk, e]
  refine (congrFun (V_arg0 m c) _).trans (congrArg (proj m c) ?_)
  blk_ext [e]

/-- The values that a point reads. -/
theorem iblk3 (c : Dev nD) (t : Fin grid0.N) : iblk m c 3 t = kB (proj m c) 2048 (by omega) (hd t) := by
  funext y
  idx_vars y
  have e := index3 t
  show iblk m c 3 t (ix2 y0 y1) = _
  blk_simp [iblk, e]
  refine (congrFun (V_arg0 m c) _).trans (congrArg (proj m c) ?_)
  blk_ext [e]

/-- The matrix of ones that a point reads. -/
theorem iblk4 (c : Dev nD) (t : Fin grid0.N) : iblk m c 4 t = onesV := by
  funext y
  idx_vars y
  have e := index4 t
  show iblk m c 4 t (ix2 y0 y1) = _
  blk_simp [iblk, e]
  refine (congrFun (V_ones m c) _).trans (congrArg onesV ?_)
  blk_ext [e]

/-- The bound that a point reads is not minus infinity. -/
theorem iblk0 (c : Dev nD) (t : Fin grid0.N) : (show EReal from iblk m c 0 t (ix1 0)) ≠ ⊥ := by
  blk_simp [iblk]
  have e : (win0_0.blk t).view.emb (ix1 0) = ix1 0 := by blk_ext [index0 t]
  have e2 := (congrFun (V_bound m c) ((win0_0.blk t).view.emb (ix1 0))).trans (congrArg (boundV _ _) e)
  exact fun h => boundV_ne _ _ (e2.symm.trans h)

/-! ## The result -/

/-- The block a grid point leaves. -/
def outV' (c : Dev nD) (t : Fin (cfg0 (F := Ideal)).N) : S1024x128.Idx → Elt Ideal .bf16 :=
  outBlk (qB (proj m c) (hd t) (rg t)) (kB (proj m c) 1024 (by omega) (hd t)) (kB (proj m c) 2048 (by omega) (hd t)) (grid0.coords t 1).val

/-- The result array is the reference's. -/
theorem final (c : Dev nD) : (dats m (outV' m) 0 c).arrAt 5 (cfg0 (F := Ideal)).N = Cert.ReferenceIdeal.Attn.whole (proj m c) := by
  refine (dats m (outV' m) 0 c).arrAt_eq_of_covers 5 _ (by decide +kernel) fun t _ y => ?_
  have e := index5 t
  idx_vars y
  blk_simp
  have hE : (win0_5.blk t).view.emb (ix2 y0 y1) = ix2 (⟨(rg t).val * 1024 + y0.val, by have := y0.isLt; have := (rg t).isLt; omega⟩ : Fin 16384)
      (⟨(hd t).val * 128 + y1.val, by have := y1.isLt; have := (hd t).isLt; omega⟩ : Fin 1024) := by blk_ext [e]
  refine Eq.trans ?_ (congrArg (Cert.ReferenceIdeal.Attn.whole (proj m c)) hE).symm
  exact (Cert.ReferenceIdeal.Attn.whole_eq (proj m c) (hd t) _ y1).symm

/-- The program runs and leaves the reference's result. -/
theorem value (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = Cert.ReferenceIdeal.Attn.whole (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨((h.1 c).1 (5 : Fin 6)).trans (final m c),
      (((h.1 c).1 (1 : Fin 6)).trans ((dats m (outV' m) 0 c).arrAt_in (1 : Fin 6) rfl _)).trans (V_arg0 m c),
      ((h.1 c).2 main_arg1 (show main_arg1 ∈ Pipeline.restRefs sig spec0 by decide)).trans (V_arg1 m c),
      ((h.1 c).2 main_arg2 (show main_arg2 ∈ Pipeline.restRefs sig spec0 by decide)).trans (V_arg2 m c)⟩)
    (run_value m (outV' m) ρ fun c t f2 f3 f4 f5 f6 h2 h3 h4 h5 h6 =>
      keeps _ _ _ c _ _ _ _ _ _ _ f2 f3 f4 f5 f6 (h3.trans (iblk1 m c t)) (h4.trans (iblk2 m c t)) (h5.trans (iblk3 m c t)) ?_ ?_)
  · intro a j
    rw [uOf_at, h6, iblk4]
    exact onesV_at a j
  · rw [zbOf_eq, h2]
    exact iblk0 m c t

end Cert.KernelIdeal.Attn

end
-- ==== Proof.Ffn.Math.lean ====
module

public import Idealize.ShloMosaic.PureOps.Ideal.Laws

@[expose] public section

noncomputable section

/-! # The feed-forward layer over the extended reals

Rows are counted from sixteen rows before the first: rows 0 to 15 are zero, row `t + 16` is row `t` of the input. -/

namespace Cert.Ffn

open Idealize.ShloMosaic

/-- One entry of a normed row: the row over its root mean square, times the gain and one plus the scale, plus the shift. -/
def nrm (row g s b : Fin 2048 → EReal) (k : Fin 2048) : EReal :=
  row k * Ideal.rsqrt (Ideal.div (∑ u, row u * row u) (Ideal.ofBits .f32 1157627904#32) + Ideal.ofBits .f32 897988541#32) * (g k * (1 + s k)) + b k

/-- The normed rows, sixteen rows of zeros first. -/
def HH (X : ℕ → Fin 2048 → EReal) (g s b : Fin 2048 → EReal) (n : ℕ) (k : Fin 2048) : EReal :=
  if 16 ≤ n then nrm (X (n - 16)) g s b k else 0

variable (H : ℕ → Fin 2048 → EReal) (WU : Fin 2048 → ℕ → EReal) (CW : Fin 3 → ℕ → EReal) (WD : ℕ → Fin 2048 → EReal)

/-- The projection of a row on a column. -/
def U (n j : ℕ) : EReal := ∑ k, H n k * WU k j

/-- The gate before its activation: three rows, each with its tap. -/
def Y (n j : ℕ) : EReal := U H WU n j * CW 2 j + U H WU (n - 1) j * CW 1 j + U H WU (n - 2) j * CW 0 j

/-- The hidden activation: the gate times its sigmoid, times the value. -/
def act (n j : ℕ) : EReal := Y H WU CW n j * Ideal.div 1 (1 + Ideal.exp (-Y H WU CW n j)) * U H WU n (5632 + j)

/-- The down projection over the first `f` tiles of 512 hidden columns. -/
def part (n : ℕ) (k : Fin 2048) : ℕ → EReal
  | 0 => 0
  | f + 1 => part n k f + ∑ jj : Fin 512, act H WU CW n (512 * f + jj.val) * WD (512 * f + jj.val) k

/-- The tiles so far are the columns so far. -/
theorem part_eq (n : ℕ) (k : Fin 2048) (f : ℕ) : part H WU CW WD n k f = ∑ j ∈ Finset.range (512 * f), act H WU CW n j * WD j k := by
  induction f with
  | zero => rfl
  | succ f ih =>
    rw [part, ih, Nat.mul_succ, Finset.sum_range_add, Finset.sum_range (n := 512)]

/-- Eleven tiles are all the columns. -/
theorem part_all (n : ℕ) (k : Fin 2048) : part H WU CW WD n k 11 = ∑ j : Fin 5632, act H WU CW n j.val * WD j.val k := by
  rw [part_eq, ← Finset.sum_range (fun j => act H WU CW n j * WD j k)]

/-- Rows of zeros project to zero. -/
theorem U_zero (X : ℕ → Fin 2048 → EReal) (g s b : Fin 2048 → EReal) (n j : ℕ) (h : n < 16) : U (HH X g s b) WU n j = 0 :=
  Finset.sum_eq_zero fun k _ => by rw [HH, if_neg (by omega), zero_mul]

end Cert.Ffn

end
-- ==== Proof.Ffn.Ops.lean ====
module

public import proofs.«01_k».proof.Proof.Ffn.Body
public import proofs.«01_k».proof.Proof.Ffn.Math
public import Idealize.ShloMosaic.Lib.Pipeline.Value

@[expose] public section

set_option maxRecDepth 16384

noncomputable section

/-! # The feed-forward call's arithmetic over the extended reals, entry by entry -/

namespace Cert.Kernel2Ideal.Ffn

open Cert.Kernel2Ideal Cert.Kernel2Ideal.Gen Cert.Ffn

open Idealize.ShloMosaic Idealize.ShloMosaic.TcCoe

/-- The normed rows of a piece of the block. -/
theorem pay5_at (g s b : Vec Ideal S1x2048 .f32) (x : Vec Ideal S128x2048 .f32) (q : Fin 128) (k : Fin 2048) :
    (k0_pay5 g s b x (ix2 q k) : EReal) = nrm (fun u => x (ix2 q u)) (fun u => g (ix2 0 u)) (fun u => s (ix2 0 u)) (fun u => b (ix2 0 u)) k := by
  unfold k0_pay5 k0_pay3 nrm
  pointwise

/-- The sixteen rows before the block: normed, or zero at the first block. -/
theorem pay4_at (w : BitVec 32) (g s b : Vec Ideal S1x2048 .f32) (x : Vec Ideal S16x2048 .f32) (q : Fin 16) (k : Fin 2048) :
    (k0_pay4 w g s b x (ix2 q k) : EReal) = Scalar.select (Scalar.cmpi .sgt w 0#32)
      (nrm (fun u => x (ix2 q u)) (fun u => g (ix2 0 u)) (fun u => s (ix2 0 u)) (fun u => b (ix2 0 u)) k) (0 : EReal) := by
  unfold k0_pay4 k0_pay3 nrm
  pointwise

/-- The hidden activation of a tile. -/
theorem pay8_at (H : Vec Ideal S528x2048 .bf16) (wg wv : Vec Ideal S2048x512 .bf16) (T : Vec Ideal S512x2048 .bf16) (cw : Vec Ideal S3x512 .f32) (r j : Fin 512)
    (y : EReal) (hy : y = (∑ x : Fin 2048, (H (ix2 ⟨16 + r.val, by omega⟩ x) : EReal) * (wg (ix2 x j) : EReal)) * (cw (ix2 2 j) : EReal)
      + (∑ x : Fin 2048, (H (ix2 ⟨(16 + r.val + 528 - 1) % 528, by omega⟩ x) : EReal) * (wg (ix2 x j) : EReal)) * (cw (ix2 1 j) : EReal)
      + (∑ x : Fin 2048, (H (ix2 ⟨(16 + r.val + 528 - 2) % 528, by omega⟩ x) : EReal) * (wg (ix2 x j) : EReal)) * (cw (ix2 0 j) : EReal)) :
    (k0_pay8 H wg T wv cw (ix2 r j) : EReal) = y * Ideal.div 1 (1 + Ideal.exp (0 - y)) * ∑ x : Fin 2048, (T (ix2 r x) : EReal) * (wv (ix2 x j) : EReal) := by
  subst hy
  unfold k0_pay8
  pointwise

/-- The sum so far plus a tile's down projection. -/
theorem pay1_at (a : FVec Ideal S512x512 .bf16) (A : Vec Ideal S512x2048 .f32) (wd : Vec Ideal S512x2048 .bf16) (r : Fin 512) (k : Fin 2048) :
    (k0_pay1 a A wd (ix2 r k) : EReal) = (A (ix2 r k) : EReal) + ∑ x : Fin 512, (a (ix2 r x) : EReal) * (wd (ix2 x k) : EReal) := by
  unfold k0_pay1
  pointwise

/-- The input plus the gated sum. -/
theorem pay2_at (x : Vec Ideal S512x2048 .f32) (g : Vec Ideal S1x2048 .f32) (A : Vec Ideal S512x2048 .f32) (r : Fin 512) (k : Fin 2048) :
    (k0_pay2 x g A (ix2 r k) : EReal) = (x (ix2 r k) : EReal) + (g (ix2 0 k) : EReal) * (A (ix2 r k) : EReal) := by
  unfold k0_pay2
  pointwise

/-- The sum starts at zero. -/
theorem pay7_at (r : Fin 512) (k : Fin 2048) : (k0_pay7 (F := Ideal) k0_pay6 (ix2 r k) : EReal) = 0 := by
  unfold k0_pay7 k0_pay6
  pointwise

/-- One step of the sum, when the operands are pieces of the whole arrays. -/
theorem stepA_at (H : Vec Ideal S528x2048 .bf16) (A : Vec Ideal S512x2048 .f32) (wg wv : Vec Ideal S2048x512 .bf16) (cw : Vec Ideal S3x512 .f32)
    (wd : Vec Ideal S512x2048 .bf16) (HN : ℕ → Fin 2048 → EReal) (WU : Fin 2048 → ℕ → EReal) (CW : Fin 3 → ℕ → EReal) (WD : ℕ → Fin 2048 → EReal) (n0 o : ℕ)
    (hH : ∀ (R : Fin 528) k, (H (ix2 R k) : EReal) = HN (n0 + R.val) k)
    (hg : ∀ k (j : Fin 512), (wg (ix2 k j) : EReal) = WU k (o + j.val))
    (hv : ∀ k (j : Fin 512), (wv (ix2 k j) : EReal) = WU k (5632 + (o + j.val)))
    (hc : ∀ a (j : Fin 512), (cw (ix2 a j) : EReal) = CW a (o + j.val))
    (hd : ∀ (j : Fin 512) k, (wd (ix2 j k) : EReal) = WD (o + j.val) k) (r : Fin 512) (k : Fin 2048) :
    (stepA H A wg wv cw wd (ix2 r k) : EReal)
      = (A (ix2 r k) : EReal) + ∑ j : Fin 512, act HN WU CW (n0 + 16 + r.val) (o + j.val) * WD (o + j.val) k := by
  have hr := r.isLt
  unfold stepA
  rw [pay1_at]
  refine congrArg ((A (ix2 r k) : EReal) + ·) (Finset.sum_congr rfl fun j _ => ?_)
  have hU : ∀ (R : Fin 528) (n : ℕ), n0 + R.val = n → (∑ x : Fin 2048, (H (ix2 R x) : EReal) * (wg (ix2 x j) : EReal)) = U HN WU n (o + j.val) :=
    fun R n e => Finset.sum_congr rfl fun x _ => by rw [hH, hg, e]
  have hT : (∑ x : Fin 2048, (tail H (ix2 r x) : EReal) * (wv (ix2 x j) : EReal)) = U HN WU (n0 + 16 + r.val) (5632 + (o + j.val)) :=
    Finset.sum_congr rfl fun x _ => by
      rw [hv]
      exact congrArg (· * _) ((hH _ x).trans (congrArg (fun n => HN n x) (Nat.add_assoc n0 16 r.val).symm))
  rw [pay8_at H wg wv (tail H) cw r j (Y HN WU CW (n0 + 16 + r.val) (o + j.val)) ?_, hT, hd, act, zero_sub]
  rw [hU _ (n0 + 16 + r.val) (Nat.add_assoc n0 16 r.val).symm, hU _ (n0 + 16 + r.val - 1) (by show n0 + (16 + r.val + 528 - 1) % 528 = _; omega),
    hU _ (n0 + 16 + r.val - 2) (by show n0 + (16 + r.val + 528 - 2) % 528 = _; omega), hc, hc, hc, Y]

end Cert.Kernel2Ideal.Ffn

end
-- ==== Proof.Ffn.Reference.lean ====
module

public import proofs.«01_k».proof.Proof.Gen.Reference2Ideal.Run
public import proofs.«01_k».proof.Proof.Ffn.Math
public import Idealize.ShloMosaic.Lib.KernelVsHost
public import Idealize.ShloMosaic.Lib.Pointwise
public import Idealize.ShloMosaic.Lib.Pipeline.Value

@[expose] public section

set_option maxRecDepth 16384

noncomputable section

/-! # The feed-forward reference, entry by entry -/

namespace Cert.Reference2Ideal.Ffn

open Cert.Reference2Ideal Cert.Reference2Ideal.Gen Cert.Ffn

open Idealize.ShloMosaic Idealize.ShloMosaic.TcCoe

/-! ## The steps -/

/-- One over each row's root mean square. -/
def invRms (x : FVec Ideal S16384x2048 .f32) : FVec Ideal S16384x1 .f32 :=
  Host.rsqrt (addf (Host.divf (broadcastInDim S16384x1 ![0] bcast_S16384_S16384x1_0
      (Host.reduceAdd (mulf x x) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32)))

/-- The normed rows. -/
def normed (x : FVec Ideal S16384x2048 .f32) (g : FVec Ideal S2048 .f32) (s b : FVec Ideal S1x2048 .f32) : FVec Ideal S16384x2048 .f32 :=
  addf (mulf (mulf (mulf x (broadcastInDim S16384x2048 ![0, 1] bcast_S16384x1_S16384x2048_0_1 (invRms x)))
      (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (addf (broadcastInDim S1x2048 ![] bcast_S_S1x2048 (constant S_ .f32 0x3F800000#32)) s)))
    (broadcastInDim S16384x2048 ![0, 1] bcast_S1x2048_S16384x2048_0_1 b)

/-- The up projection. -/
def up (h : FVec Ideal S16384x2048 .f32) (w : FVec Ideal S2048x11264 .f32) : FVec Ideal S16384x11264 .f32 :=
  Host.dotGeneral dot_S16384x2048_S2048x11264_S16384x11264_1_0_0_1_n_n none h w

/-- The gate's half, two rows of zeros first. -/
def padded (u : FVec Ideal S16384x11264 .f32) : FVec Ideal S16386x5632 .f32 :=
  pad S16386x5632 ![2, 0] ![0, 0] ![0, 0] (extractStridedSlice S16384x5632 ![0, 0] u slices_S16384x11264_S16384x5632_0_0) (sitofp .f32 (constantI S_ 32 0#32))
    pads_S16384x5632_S16386x5632_200_000 h_S_

/-- A tap of the convolution, on every row. -/
def tap (cw : FVec Ideal S3x5632 .f32) (off : Fin 2 → ℕ) (h : S3x5632.Slices off S1x5632) : FVec Ideal S16384x5632 .f32 :=
  broadcastInDim S16384x5632 ![0, 1] bcast_S1x5632_S16384x5632_0_1 (broadcastInDim S1x5632 ![1] bcast_S5632_S1x5632_1
    (shapeCast S5632 (extractStridedSlice S1x5632 off cw h) shapeCasts_S1x5632_S5632))

/-- The convolution of the gate's half. -/
def conv (u : FVec Ideal S16384x11264 .f32) (cw : FVec Ideal S3x5632 .f32) : FVec Ideal S16384x5632 .f32 :=
  addf (addf (mulf (extractStridedSlice S16384x5632 ![2, 0] (padded u) slices_S16386x5632_S16384x5632_2_0) (tap cw ![2, 0] slices_S3x5632_S1x5632_2_0))
      (mulf (extractStridedSlice S16384x5632 ![0, 0] (padded u) slices_S16386x5632_S16384x5632_0_0) (tap cw ![0, 0] slices_S3x5632_S1x5632_0_0)))
    (mulf (extractStridedSlice S16384x5632 ![1, 0] (padded u) slices_S16386x5632_S16384x5632_1_0) (tap cw ![1, 0] slices_S3x5632_S1x5632_1_0))

/-- Each entry times its sigmoid. -/
def silu (y : FVec Ideal S16384x5632 .f32) : FVec Ideal S16384x5632 .f32 :=
  mulf y (Host.divf (broadcastInDim S16384x5632 ![] bcast_S_S16384x5632 (constant S_ .f32 0x3F800000#32))
    (addf (broadcastInDim S16384x5632 ![] bcast_S_S16384x5632 (constant S_ .f32 0x3F800000#32)) (Host.exp (Host.negf y))))

/-- The hidden activation. -/
def hidden (u : FVec Ideal S16384x11264 .f32) (cw : FVec Ideal S3x5632 .f32) : FVec Ideal S16384x5632 .f32 :=
  mulf (silu (conv u cw)) (extractStridedSlice S16384x5632 ![0, 5632] u slices_S16384x11264_S16384x5632_0_5632)

/-- The whole reference. -/
def whole (x : FVec Ideal S16384x2048 .f32) (g : FVec Ideal S2048 .f32) (s b gate : FVec Ideal S1x2048 .f32) (wu : FVec Ideal S2048x11264 .f32)
    (cw : FVec Ideal S3x5632 .f32) (wd : FVec Ideal S5632x2048 .f32) : FVec Ideal S16384x2048 .f32 :=
  addf x (mulf (broadcastInDim S16384x2048 ![0, 1] bcast_S1x2048_S16384x2048_0_1 gate)
    (Host.dotGeneral dot_S16384x5632_S5632x2048_S16384x2048_1_0_0_1_n_n none (hidden (up (normed x g s b) wu) cw) wd))

theorem res_eq (m : (ℓ : Loc nD τ sig) → Buf (Elt Ideal) ℓ) (c : Dev nD) :
    Value.res_main_v48 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v48 whole hidden silu conv tap padded up normed invRms
  rfl

/-! ## Entry by entry -/

theorem normed_at (x : FVec Ideal S16384x2048 .f32) (g : FVec Ideal S2048 .f32) (s b : FVec Ideal S1x2048 .f32) (n : Fin 16384) (k : Fin 2048) :
    (normed x g s b (ix2 n k) : EReal) = nrm (fun u => x (ix2 n u)) (fun u => g (ix1 u)) (fun u => s (ix2 0 u)) (fun u => b (ix2 0 u)) k := by
  unfold normed invRms nrm
  pointwise
  rw [mul_assoc _ (g (ix1 k) : EReal)]

theorem up_at (h : FVec Ideal S16384x2048 .f32) (w : FVec Ideal S2048x11264 .f32) (n : Fin 16384) (j : Fin 11264) :
    (up h w (ix2 n j) : EReal) = ∑ k : Fin 2048, (h (ix2 n k) : EReal) * (w (ix2 k j) : EReal) := by
  unfold up
  pointwise

theorem tap_at (cw : FVec Ideal S3x5632 .f32) (o : ℕ) (ho : o < 3) (h : S3x5632.Slices ![o, 0] S1x5632) (n : Fin 16384) (j : Fin 5632) :
    (tap cw ![o, 0] h (ix2 n j) : EReal) = cw (ix2 ⟨o, ho⟩ j) := by
  unfold tap
  pointwise

/-! ## The operands by whole numbers -/

/-- The input's rows. -/
def XN (x : S16384x2048.Idx → EReal) (n : ℕ) (k : Fin 2048) : EReal := x (ix2 (Fin.ofNat 16384 n) k)

/-- The up projection's columns. -/
def WUN (w : S2048x11264.Idx → EReal) (k : Fin 2048) (j : ℕ) : EReal := w (ix2 k (Fin.ofNat 11264 j))

/-- The taps. -/
def CWN (w : S3x5632.Idx → EReal) (a : Fin 3) (j : ℕ) : EReal := w (ix2 a (Fin.ofNat 5632 j))

/-- The down projection's rows. -/
def WDN (w : S5632x2048.Idx → EReal) (j : ℕ) (k : Fin 2048) : EReal := w (ix2 (Fin.ofNat 5632 j) k)

/-- The normed rows, sixteen rows of zeros first. -/
def HN (x : S16384x2048.Idx → EReal) (g : S2048.Idx → EReal) (s b : S1x2048.Idx → EReal) : ℕ → Fin 2048 → EReal :=
  HH (XN x) (fun u => g (ix1 u)) (fun u => s (ix2 0 u)) (fun u => b (ix2 0 u))

/-- A number below the bound names the same place. -/
theorem ofNat_val {N : ℕ} [NeZero N] (n : ℕ) (h : n < N) : Fin.ofNat N n = ⟨n, h⟩ := Fin.ext (Nat.mod_eq_of_lt h)

/-! ## The value -/

variable (x : FVec Ideal S16384x2048 .f32) (g : FVec Ideal S2048 .f32) (s b gate : FVec Ideal S1x2048 .f32) (wu : FVec Ideal S2048x11264 .f32)
  (cw : FVec Ideal S3x5632 .f32) (wd : FVec Ideal S5632x2048 .f32)

theorem up_eq (n : Fin 16384) (j : Fin 11264) : (up (normed x g s b) wu (ix2 n j) : EReal) = U (HN x g s b) (WUN wu) (n.val + 16) j.val := by
  have hx : (fun u => (x (ix2 n u) : EReal)) = XN x n.val := funext fun u => by rw [XN, ofNat_val _ n.isLt]
  rw [up_at]
  refine Finset.sum_congr rfl fun k _ => ?_
  rw [normed_at, HN, HH, if_pos (Nat.le_add_left _ _), Nat.add_sub_cancel, WUN, ofNat_val _ j.isLt, hx]

theorem padded_eq (p : Fin 16386) (j : Fin 5632) : (padded (up (normed x g s b) wu) (ix2 p j) : EReal) = U (HN x g s b) (WUN wu) (p.val + 14) j.val := by
  have hp := p.isLt
  have hj := j.isLt
  unfold padded
  by_cases h : 2 ≤ p.val
  · refine (pad_apply_of_inside _ _ _ _ _ _ _ (ix2 p j) (ix2 (⟨p.val - 2, by omega⟩ : Fin 16384) j) fun a => ?_).trans ?_
    · match a with
      | ⟨0, _⟩ => show p.val = 2 + (p.val - 2) * (0 + 1); omega
      | ⟨1, _⟩ => show j.val = 0 + j.val * (0 + 1); omega
    · have e : (extractStridedSlice S16384x5632 ![0, 0] (up (normed x g s b) wu) slices_S16384x11264_S16384x5632_0_0
          (ix2 (⟨p.val - 2, by omega⟩ : Fin 16384) j) : EReal) = up (normed x g s b) wu (ix2 (⟨p.val - 2, by omega⟩ : Fin 16384) ⟨j.val, by omega⟩) := by
        pointwise
      refine e.trans ((up_eq x g s b wu _ _).trans ?_)
      show U _ _ (p.val - 2 + 16) j.val = _
      rw [show p.val - 2 + 16 = p.val + 14 by omega]
  · refine (pad_apply_of_not_inside _ _ _ _ _ _ _ (ix2 p j) (0 : Fin 2) fun hin => h hin.1).trans ?_
    rw [HN, U_zero _ _ _ _ _ _ _ (by omega)]
    show (((0#32 : BitVec 32).toInt : ℝ) : EReal) = 0
    simp

theorem conv_eq (n : Fin 16384) (j : Fin 5632) : (conv (up (normed x g s b) wu) cw (ix2 n j) : EReal) = Y (HN x g s b) (WUN wu) (CWN cw) (n.val + 16) j.val := by
  unfold conv
  pointwise
  rw [padded_eq, padded_eq, padded_eq, tap_at cw 2 (by decide), tap_at cw 0 (by decide), tap_at cw 1 (by decide), Y, CWN, CWN, CWN, ofNat_val _ j.isLt]
  rw [show 2 + n.val + 14 = n.val + 16 by omega, show 1 + n.val + 14 = n.val + 15 by omega]
  exact add_right_comm _ _ _

theorem hidden_eq (n : Fin 16384) (j : Fin 5632) :
    (hidden (up (normed x g s b) wu) cw (ix2 n j) : EReal) = act (HN x g s b) (WUN wu) (CWN cw) (n.val + 16) j.val := by
  have hj := j.isLt
  unfold hidden silu
  pointwise
  rw [conv_eq, up_eq, act]

/-- The reference: each row plus its gated feed-forward. -/
theorem whole_eq (n : Fin 16384) (k : Fin 2048) :
    (whole x g s b gate wu cw wd (ix2 n k) : EReal)
      = x (ix2 n k) + gate (ix2 0 k) * part (HN x g s b) (WUN wu) (CWN cw) (WDN wd) (n.val + 16) k 11 := by
  unfold whole
  pointwise
  rw [part_all]
  refine congrArg (fun u : EReal => (x (ix2 n k) : EReal) + (gate (ix2 0 k) : EReal) * u) (Finset.sum_congr rfl fun j _ => ?_)
  rw [hidden_eq, WDN, ofNat_val _ j.isLt]

end Cert.Reference2Ideal.Ffn

end
-- ==== Proof.Ffn.Value.lean ====
module

public import proofs.«01_k».proof.Proof.Ffn.Args
public import proofs.«01_k».proof.Proof.Ffn.Ops
public import proofs.«01_k».proof.Proof.Ffn.Reference
public import Idealize.ShloMosaic.Lib.Pipeline.ValueKit

@[expose] public section

set_option maxRecDepth 16384

noncomputable section

/-! # The feed-forward kernel's result array -/

namespace Cert.Kernel2Ideal.Ffn

open Cert.Kernel2Ideal Cert.Kernel2Ideal.Gen Cert.Ffn
open Cert.Reference2Ideal.Ffn (XN WUN CWN WDN HN ofNat_val)

open Idealize.ShloMosaic Idealize.ShloMosaic.TcCoe Idealize.SL.Sem Idealize.ShloMosaic.StableHlo

variable (m : (ℓ : Loc nD τ sig) → Buf (Elt Ideal) ℓ)

/-! ## What the host computes -/

theorem V_v0 (c : Dev nD) : V m c main_v0 = shapeCast S1x2048 (m ((c.tc : Thread nD τ).loc main_arg1)) shapeCasts_S2048_S1x2048 := by
  show after (hostOps (F := Ideal)).flatten (fun b => m (c, b)) main_v0 = _
  simp only [hostOps, hostOps0, List.flatten_cons, List.flatten_nil, List.cons_append, List.nil_append]
  after_results_simp <;> rfl

theorem V_v1 (c : Dev nD) : V m c main_v1 = (truncf .bf16 (m ((c.tc : Thread nD τ).loc main_arg5) : FVec Ideal S2048x11264 .f32) bitsLt_bf16_f32 : FVec Ideal S2048x11264 .bf16) := by
  show after (hostOps (F := Ideal)).flatten (fun b => m (c, b)) main_v1 = _
  simp only [hostOps, hostOps0, List.flatten_cons, List.flatten_nil, List.cons_append, List.nil_append]
  after_results_simp <;> rfl

theorem V_v2 (c : Dev nD) : V m c main_v2 = (truncf .bf16 (m ((c.tc : Thread nD τ).loc main_arg7) : FVec Ideal S5632x2048 .f32) bitsLt_bf16_f32 : FVec Ideal S5632x2048 .bf16) := by
  show after (hostOps (F := Ideal)).flatten (fun b => m (c, b)) main_v2 = _
  simp only [hostOps, hostOps0, List.flatten_cons, List.flatten_nil, List.cons_append, List.nil_append]
  after_results_simp <;> rfl

/-! ## The arguments -/

/-- The input. -/
abbrev aX (c : Dev nD) : S16384x2048.Idx → EReal := m ((c.tc : Thread nD τ).loc main_arg0)
/-- The gain. -/
abbrev aG (c : Dev nD) : S2048.Idx → EReal := m ((c.tc : Thread nD τ).loc main_arg1)
/-- The scale. -/
abbrev aS (c : Dev nD) : S1x2048.Idx → EReal := m ((c.tc : Thread nD τ).loc main_arg2)
/-- The shift. -/
abbrev aB (c : Dev nD) : S1x2048.Idx → EReal := m ((c.tc : Thread nD τ).loc main_arg3)
/-- The gate. -/
abbrev aQ (c : Dev nD) : S1x2048.Idx → EReal := m ((c.tc : Thread nD τ).loc main_arg4)
/-- The up projection. -/
abbrev aU (c : Dev nD) : S2048x11264.Idx → EReal := m ((c.tc : Thread nD τ).loc main_arg5)
/-- The taps. -/
abbrev aC (c : Dev nD) : S3x5632.Idx → EReal := m ((c.tc : Thread nD τ).loc main_arg6)
/-- The down projection. -/
abbrev aD (c : Dev nD) : S5632x2048.Idx → EReal := m ((c.tc : Thread nD τ).loc main_arg7)

/-! ## The blocks' places -/

/-- The point's row block and tile. -/
theorem coords_eq : ∀ t : Fin grid0.N, (grid0.coords t 0).val = t.val / 11 ∧ (grid0.coords t 1).val = t.val % 11 := by decide +kernel

/-- The input's block: the row block. -/
theorem index0 : ∀ t : Fin grid0.N, win0_0.index t = ![t.val / 11, 0] := by decide +kernel
/-- The sixteen rows before it. -/
theorem index1 : ∀ t : Fin grid0.N, win0_1.index t = ![32 * (t.val / 11) - 1, 0] := by decide +kernel
/-- The gain has one block. -/
theorem index2 : ∀ t : Fin grid0.N, win0_2.index t = ![0, 0] := by decide +kernel
/-- The scale has one block. -/
theorem index3 : ∀ t : Fin grid0.N, win0_3.index t = ![0, 0] := by decide +kernel
/-- The shift has one block. -/
theorem index4 : ∀ t : Fin grid0.N, win0_4.index t = ![0, 0] := by decide +kernel
/-- The gate has one block. -/
theorem index5 : ∀ t : Fin grid0.N, win0_5.index t = ![0, 0] := by decide +kernel
/-- The up projection's gate columns: the tile. -/
theorem index6 : ∀ t : Fin grid0.N, win0_6.index t = ![0, t.val % 11] := by decide +kernel
/-- The up projection's value columns: the tile, in the second half. -/
theorem index7 : ∀ t : Fin grid0.N, win0_7.index t = ![0, 11 + t.val % 11] := by decide +kernel
/-- The taps: the tile. -/
theorem index8 : ∀ t : Fin grid0.N, win0_8.index t = ![0, t.val % 11] := by decide +kernel
/-- The down projection's rows: the tile. -/
theorem index9 : ∀ t : Fin grid0.N, win0_9.index t = ![t.val % 11, 0] := by decide +kernel
/-- The result's block: the row block. -/
theorem index10 : ∀ t : Fin grid0.N, win0_10.index t = ![t.val / 11, 0] := by decide +kernel

theorem lt_N (t : Fin cfg0.N) : t.val < 352 := lt_of_lt_of_eq t.isLt N_0

/-! ## The blocks' entries -/

theorem iblk0 (c : Dev nD) (t : Fin cfg0.N) (r : Fin 512) (k : Fin 2048) : (iblk m c 0 t (ix2 r k) : EReal) = XN (aX m c) (512 * (t.val / 11) + r.val) k := by
  have e := index0 t
  have ht := lt_N t
  rw [XN, ofNat_val _ (show 512 * (t.val / 11) + r.val < 16384 by omega)]
  blk_simp [iblk, e]
  refine (congrFun (V_arg0 m c) _).trans (congrArg (aX m c) ?_)
  blk_ext [e]

theorem iblk1 (c : Dev nD) (t : Fin cfg0.N) (h0 : 11 ≤ t.val) (r : Fin 16) (k : Fin 2048) :
    (iblk m c 1 t (ix2 r k) : EReal) = XN (aX m c) (512 * (t.val / 11) + r.val - 16) k := by
  have e := index1 t
  have ht := lt_N t
  rw [XN, ofNat_val _ (show 512 * (t.val / 11) + r.val - 16 < 16384 by omega)]
  blk_simp [iblk, e]
  refine (congrFun (V_arg0 m c) _).trans (congrArg (aX m c) ?_)
  blk_ext [e]

theorem iblk2 (c : Dev nD) (t : Fin cfg0.N) (k : Fin 2048) : (iblk m c 2 t (ix2 0 k) : EReal) = aG m c (ix1 k) := by
  have e := index2 t
  blk_simp [iblk, e]
  refine (congrFun (V_v0 m c) _).trans ?_
  have e2 : (win0_2.blk t).view.emb (ix2 0 k) = ix2 0 k := by blk_ext [e]
  refine (congrArg (shapeCast S1x2048 (m ((c.tc : Thread nD τ).loc main_arg1)) shapeCasts_S2048_S1x2048) e2).trans ?_
  pointwise

theorem iblk3 (c : Dev nD) (t : Fin cfg0.N) (k : Fin 2048) : (iblk m c 3 t (ix2 0 k) : EReal) = aS m c (ix2 0 k) := by
  have e := index3 t
  blk_simp [iblk, e]
  refine (congrFun (V_arg2 m c) _).trans (congrArg (aS m c) ?_)
  blk_ext [e]

theorem iblk4 (c : Dev nD) (t : Fin cfg0.N) (k : Fin 2048) : (iblk m c 4 t (ix2 0 k) : EReal) = aB m c (ix2 0 k) := by
  have e := index4 t
  blk_simp [iblk, e]
  refine (congrFun (V_arg3 m c) _).trans (congrArg (aB m c) ?_)
  blk_ext [e]

theorem iblk5 (c : Dev nD) (t : Fin cfg0.N) (k : Fin 2048) : (iblk m c 5 t (ix2 0 k) : EReal) = aQ m c (ix2 0 k) := by
  have e := index5 t
  blk_simp [iblk, e]
  refine (congrFun (V_arg4 m c) _).trans (congrArg (aQ m c) ?_)
  blk_ext [e]

theorem iblk6 (c : Dev nD) (t : Fin cfg0.N) (k : Fin 2048) (j : Fin 512) : (iblk m c 6 t (ix2 k j) : EReal) = WUN (aU m c) k (512 * (t.val % 11) + j.val) := by
  have e := index6 t
  have ht := lt_N t
  rw [WUN, ofNat_val _ (show 512 * (t.val % 11) + j.val < 11264 by omega)]
  blk_simp [iblk, e]
  refine (congrFun (V_v1 m c) _).trans (congrArg (aU m c) ?_)
  blk_ext [e]

theorem iblk7 (c : Dev nD) (t : Fin cfg0.N) (k : Fin 2048) (j : Fin 512) :
    (iblk m c 7 t (ix2 k j) : EReal) = WUN (aU m c) k (5632 + (512 * (t.val % 11) + j.val)) := by
  have e := index7 t
  have ht := lt_N t
  rw [WUN, ofNat_val _ (show 5632 + (512 * (t.val % 11) + j.val) < 11264 by omega)]
  blk_simp [iblk, e]
  refine (congrFun (V_v1 m c) _).trans (congrArg (aU m c) ?_)
  blk_ext [e]

theorem iblk8 (c : Dev nD) (t : Fin cfg0.N) (a : Fin 3) (j : Fin 512) : (iblk m c 8 t (ix2 a j) : EReal) = CWN (aC m c) a (512 * (t.val % 11) + j.val) := by
  have e := index8 t
  have ht := lt_N t
  rw [CWN, ofNat_val _ (show 512 * (t.val % 11) + j.val < 5632 by omega)]
  blk_simp [iblk, e]
  refine (congrFun (V_arg6 m c) _).trans (congrArg (aC m c) ?_)
  blk_ext [e]

theorem iblk9 (c : Dev nD) (t : Fin cfg0.N) (j : Fin 512) (k : Fin 2048) : (iblk m c 9 t (ix2 j k) : EReal) = WDN (aD m c) (512 * (t.val % 11) + j.val) k := by
  have e := index9 t
  have ht := lt_N t
  rw [WDN, ofNat_val _ (show 512 * (t.val % 11) + j.val < 5632 by omega)]
  blk_simp [iblk, e]
  refine (congrFun (V_v2 m c) _).trans (congrArg (aD m c) ?_)
  blk_ext [e]

/-! ## The state between points -/

/-- The normed rows of the whole input. -/
abbrev rows (c : Dev nD) : ℕ → Fin 2048 → EReal := HN (aX m c) (aG m c) (aS m c) (aB m c)

theorem at_eq (n : ℕ) (h : n < 352) : (at_ n).val = n := Nat.mod_eq_of_lt h

/-- The first row block has no rows before it. -/
theorem first_word (b : ℕ) (hb : b < 32) : Scalar.cmpi .sgt (BitVec.ofNat 32 b) 0#32 = 1 ↔ 0 < b := by
  have h : ∀ b : Fin 32, Scalar.cmpi .sgt (BitVec.ofNat 32 b.val) 0#32 = 1 ↔ 0 < b.val := by decide +kernel
  exact h ⟨b, hb⟩

/-- The scratch rows of row block `b` are the normed rows from `512 b` on. -/
theorem hOf_at (c : Dev nD) (b : ℕ) (hb : b < 32) (R : Fin 528) (k : Fin 2048) : (hOf m c b (ix2 R k) : EReal) = rows m c (512 * b + R.val) k := by
  have hR := R.isLt
  have hn := at_eq (11 * b) (by omega)
  have hdiv : (at_ (11 * b)).val / 11 = b := by rw [hn]; omega
  have hco : (grid0.coords (at_ (11 * b)) 0).val = b := (coords_eq (at_ (11 * b))).1.trans hdiv
  have hg : (fun u : Fin 2048 => (iblk m c 2 (at_ (11 * b)) (ix2 0 u) : EReal)) = fun u => aG m c (ix1 u) := funext fun u => iblk2 m c _ u
  have hs : (fun u : Fin 2048 => (iblk m c 3 (at_ (11 * b)) (ix2 0 u) : EReal)) = fun u => aS m c (ix2 0 u) := funext fun u => iblk3 m c _ u
  have hbb : (fun u : Fin 2048 => (iblk m c 4 (at_ (11 * b)) (ix2 0 u) : EReal)) = fun u => aB m c (ix2 0 u) := funext fun u => iblk4 m c _ u
  unfold hOf hNew rows HN HH
  by_cases h : R.val < 16
  · refine (dif_pos h).trans ((pay4_at _ _ _ _ _ ⟨R.val, h⟩ k).trans ?_)
    rw [hco, hg, hs, hbb]
    unfold Scalar.select
    by_cases h0 : 0 < b
    · rw [if_pos ((first_word b hb).mpr h0), if_pos (show 16 ≤ 512 * b + R.val by omega)]
      refine congrArg (fun r => nrm r _ _ _ k) (funext fun u => ?_)
      rw [iblk1 m c _ (by rw [hn]; omega), hdiv]
    · rw [if_neg fun h' => h0 ((first_word b hb).mp h'), if_neg (show ¬ 16 ≤ 512 * b + R.val by omega)]
  · refine (dif_neg h).trans ((pay5_at _ _ _ _ ⟨(R.val - 16) % 128, Nat.mod_lt _ (by decide)⟩ k).trans ?_)
    rw [hg, hs, hbb, if_pos (show 16 ≤ 512 * b + R.val by omega)]
    refine congrArg (fun r => nrm r _ _ _ k) (funext fun u => ?_)
    refine (iblk0 m c (at_ (11 * b)) ⟨128 * ((R.val - 16) / 128) + (R.val - 16) % 128, by omega⟩ u).trans ?_
    rw [hdiv]
    exact congrArg (fun n => XN (aX m c) n u) (by show 512 * b + (128 * ((R.val - 16) / 128) + (R.val - 16) % 128) = 512 * b + R.val - 16; omega)

/-- The sum after `f` tiles of row block `b`. -/
theorem accOf_at (c : Dev nD) (b : ℕ) (hb : b < 32) (f : ℕ) (hf : f ≤ 11) (r : Fin 512) (k : Fin 2048) :
    (accOf m c b f (ix2 r k) : EReal) = part (rows m c) (WUN (aU m c)) (CWN (aC m c)) (WDN (aD m c)) (512 * b + 16 + r.val) k f := by
  induction f with
  | zero => exact pay7_at r k
  | succ f ih =>
    have hmod : (at_ (11 * b + f)).val % 11 = f := by rw [at_eq _ (by omega)]; omega
    rw [accOf, stepA_at (hOf m c b) (accOf m c b f) _ _ _ _ (rows m c) (WUN (aU m c)) (CWN (aC m c)) (WDN (aD m c)) (512 * b) (512 * f)
      (hOf_at m c b hb) (fun k j => (iblk6 m c _ k j).trans (by rw [hmod])) (fun k j => (iblk7 m c _ k j).trans (by rw [hmod]))
      (fun a j => (iblk8 m c _ a j).trans (by rw [hmod])) (fun j k => (iblk9 m c _ j k).trans (by rw [hmod])), ih (by omega), part]

/-! ## The result -/

/-- The reference's result of the arguments. -/
abbrev ref (c : Dev nD) : S16384x2048.Idx → EReal :=
  Cert.Reference2Ideal.Ffn.whole (aX m c) (aG m c) (aS m c) (aB m c) (aQ m c) (aU m c) (aC m c) (aD m c)

/-- The block a row block leaves. -/
theorem outOf_at (c : Dev nD) (t : Fin cfg0.N) (r : Fin 512) (k : Fin 2048) (h : 512 * (t.val / 11) + r.val < 16384) :
    (outOf m c t (ix2 r k) : EReal) = ref m c (ix2 ⟨512 * (t.val / 11) + r.val, h⟩ k) := by
  have ht := lt_N t
  unfold outOf
  rw [pay2_at, iblk0, iblk5, accOf_at m c _ (by omega) 11 le_rfl, ref, Cert.Reference2Ideal.Ffn.whole_eq, XN, ofNat_val _ h, Nat.add_right_comm (512 * (t.val / 11)) 16 r.val]

/-- The result array is the reference's. -/
theorem final (c : Dev nD) : (dats m 0 c).arrAt 10 cfg0.N = ref m c := by
  refine (dats m 0 c).arrAt_eq_of_covers 10 _ (by decide +kernel) fun t _ y => ?_
  have e := index10 t
  have ht := lt_N t
  idx_vars y
  blk_simp
  have h : 512 * (t.val / 11) + y0.val < 16384 := by have := y0.isLt; omega
  have hE : (win0_10.blk t).view.emb (ix2 y0 y1) = ix2 (⟨512 * (t.val / 11) + y0.val, h⟩ : Fin 16384) y1 := by blk_ext [e]
  refine Eq.trans ?_ (congrArg (ref m c) hE).symm
  exact outOf_at m c t y0 y1 h

/-- The program runs and leaves the reference's result. -/
theorem value (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨((h.1 c).1 (10 : Fin 11)).trans (final m c), args_kept m r h c⟩) (run m ρ)

end Cert.Kernel2Ideal.Ffn

end
-- ==== Proof.Out.Reference.lean ====
module

public import proofs.«01_k».proof.Proof.Gen.Reference3Ideal.Run
public import Idealize.ShloMosaic.Lib.Pointwise
public import Idealize.ShloMosaic.Lib.Pipeline.Value

@[expose] public section

set_option maxRecDepth 16384

noncomputable section

/-! # The output projection's reference, entry by entry -/

namespace Cert.Reference3Ideal.Out

open Cert.Reference3Ideal Cert.Reference3Ideal.Gen

open Idealize.ShloMosaic Idealize.ShloMosaic.TcCoe

/-- Both groups' outputs side by side. -/
def both (a b : FVec Ideal S16384x1024 .bf16) : FVec Ideal S16384x2048 .f32 :=
  extf .f32 (concatenate S16384x2048 1 [⟨S16384x1024, a⟩, ⟨S16384x1024, b⟩] concatenates_S16384x1024_S16384x1024_S16384x2048_d1) bitsLt_bf16_f32

/-- The whole reference. -/
def whole (x : FVec Ideal S16384x2048 .f32) (a b : FVec Ideal S16384x1024 .bf16) (w : FVec Ideal S2048x2048 .f32) (gate : FVec Ideal S1x2048 .f32) :
    FVec Ideal S16384x2048 .f32 :=
  addf x (mulf (broadcastInDim S16384x2048 ![0, 1] bcast_S1x2048_S16384x2048_0_1 gate)
    (Host.dotGeneral dot_S16384x2048_S2048x2048_S16384x2048_1_0_0_1_n_n none (both a b) w))

/-- The left half is the first group's. -/
theorem both_left (a b : FVec Ideal S16384x1024 .bf16) (n : Fin 16384) (j : Fin 1024) :
    (both a b (ix2 n (Fin.castAdd 1024 j)) : EReal) = a (ix2 n j) := by
  unfold both
  pointwise
  exact dif_pos j.isLt

/-- The right half is the second group's. -/
theorem both_right (a b : FVec Ideal S16384x1024 .bf16) (n : Fin 16384) (j : Fin 1024) :
    (both a b (ix2 n (Fin.natAdd 1024 j)) : EReal) = b (ix2 n j) := by
  unfold both
  pointwise
  refine (dif_neg (by simp [Fin.natAdd])).trans (congrArg b (congrArg (ix2 n) (Fin.ext ?_)))
  simp [Fin.natAdd]

/-- The reference: each row plus its gated projection, the first group's half and the second's. -/
theorem whole_at (x : FVec Ideal S16384x2048 .f32) (a b : FVec Ideal S16384x1024 .bf16) (w : FVec Ideal S2048x2048 .f32) (gate : FVec Ideal S1x2048 .f32)
    (n : Fin 16384) (k : Fin 2048) :
    (whole x a b w gate (ix2 n k) : EReal) = x (ix2 n k) + gate (ix2 0 k)
      * ((∑ j : Fin 1024, (a (ix2 n j) : EReal) * (w (ix2 (Fin.castAdd 1024 j) k) : EReal))
        + ∑ j : Fin 1024, (b (ix2 n j) : EReal) * (w (ix2 (Fin.natAdd 1024 j) k) : EReal)) := by
  unfold whole
  pointwise
  refine congrArg (fun u : EReal => (x (ix2 n k) : EReal) + (gate (ix2 0 k) : EReal) * u) ((Fin.sum_univ_add (a := 1024) (b := 1024) _).trans ?_)
  refine congrArg₂ (· + ·) (Finset.sum_congr rfl fun j _ => ?_) (Finset.sum_congr rfl fun j _ => ?_)
  · rw [both_left]
  · rw [both_right]

end Cert.Reference3Ideal.Out

end
-- ==== Proof.Out.Value.lean ====
module

public import proofs.«01_k».proof.Proof.Gen.Kernel3Ideal.Value
public import proofs.«01_k».proof.Proof.Out.Reference
public import Idealize.ShloMosaic.Lib.Pipeline.ValueKit
public import Idealize.ShloMosaic.Lib.StableHlo.Run

@[expose] public section

set_option maxRecDepth 16384

noncomputable section

/-! # The output projection's result array -/

namespace Cert.Kernel3Ideal.Out

open Cert.Kernel3Ideal Cert.Kernel3Ideal.Gen

open Idealize.ShloMosaic Idealize.ShloMosaic.TcCoe Idealize.SL.Sem Idealize.ShloMosaic.StableHlo

variable (m : (ℓ : Loc nD τ sig) → Buf (Elt Ideal) ℓ)

/-- The input. -/
abbrev aX (c : Dev nD) : S16384x2048.Idx → EReal := m ((c.tc : Thread nD τ).loc main_arg0)
/-- The first group's outputs. -/
abbrev aA (c : Dev nD) : S16384x1024.Idx → EReal := m ((c.tc : Thread nD τ).loc main_arg1)
/-- The second group's outputs. -/
abbrev aB (c : Dev nD) : S16384x1024.Idx → EReal := m ((c.tc : Thread nD τ).loc main_arg2)
/-- The projection. -/
abbrev aW (c : Dev nD) : S2048x2048.Idx → EReal := m ((c.tc : Thread nD τ).loc main_arg3)
/-- The gate. -/
abbrev aQ (c : Dev nD) : S1x2048.Idx → EReal := m ((c.tc : Thread nD τ).loc main_arg4)

/-- The projection is cast, which over the extended reals changes nothing. -/
theorem V_v0 (c : Dev nD) : V m c main_v0 = (truncf .bf16 (m ((c.tc : Thread nD τ).loc main_arg3) : FVec Ideal S2048x2048 .f32) bitsLt_bf16_f32 : FVec Ideal S2048x2048 .bf16) := by
  unfold V
  after_results_simp <;> rfl

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![1, 0] := by decide +kernel
theorem index5 : ∀ t : Fin grid0.N, win0_5.index t = ![0, 0] := by decide +kernel
theorem index6 : ∀ t : Fin grid0.N, win0_6.index t = ![t.val, 0] := by decide +kernel

theorem lt_N (t : Fin cfg0.N) : t.val < 32 := lt_of_lt_of_eq t.isLt N_0

/-- The array row of a block's row. -/
abbrev row (t : Fin cfg0.N) (r : Fin 512) : Fin 16384 := ⟨512 * t.val + r.val, by have := lt_N t; omega⟩

theorem iblk0 (c : Dev nD) (t : Fin cfg0.N) (r : Fin 512) (k : Fin 2048) : (iblk m c 0 t (ix2 r k) : EReal) = aX m c (ix2 (row t r) k) := by
  have e := index0 t
  blk_simp [iblk, e]
  refine (congrFun (V_main_arg0 m c) _).trans (congrArg (aX m c) ?_)
  blk_ext [e]

theorem iblk1 (c : Dev nD) (t : Fin cfg0.N) (r : Fin 512) (k : Fin 1024) : (iblk m c 1 t (ix2 r k) : EReal) = aA m c (ix2 (row t r) k) := by
  have e := index1 t
  blk_simp [iblk, e]
  refine (congrFun (V_main_arg1 m c) _).trans (congrArg (aA m c) ?_)
  blk_ext [e]

theorem iblk2 (c : Dev nD) (t : Fin cfg0.N) (r : Fin 512) (k : Fin 1024) : (iblk m c 2 t (ix2 r k) : EReal) = aB m c (ix2 (row t r) k) := by
  have e := index2 t
  blk_simp [iblk, e]
  refine (congrFun (V_main_arg2 m c) _).trans (congrArg (aB m c) ?_)
  blk_ext [e]

theorem iblk3 (c : Dev nD) (t : Fin cfg0.N) (j : Fin 1024) (k : Fin 2048) : (iblk m c 3 t (ix2 j k) : EReal) = aW m c (ix2 (Fin.castAdd 1024 j) k) := by
  have e := index3 t
  blk_simp [iblk, e]
  refine (congrFun (V_v0 m c) _).trans (congrArg (aW m c) ?_)
  blk_ext [e]
  simp

theorem iblk4 (c : Dev nD) (t : Fin cfg0.N) (j : Fin 1024) (k : Fin 2048) : (iblk m c 4 t (ix2 j k) : EReal) = aW m c (ix2 (Fin.natAdd 1024 j) k) := by
  have e := index4 t
  blk_simp [iblk, e]
  refine (congrFun (V_v0 m c) _).trans (congrArg (aW m c) ?_)
  blk_ext [e]
  simp [Nat.add_comm]

theorem iblk5 (c : Dev nD) (t : Fin cfg0.N) (k : Fin 2048) : (iblk m c 5 t (ix2 0 k) : EReal) = aQ m c (ix2 0 k) := by
  have e := index5 t
  blk_simp [iblk, e]
  refine (congrFun (V_main_arg4 m c) _).trans (congrArg (aQ m c) ?_)
  blk_ext [e]

/-- The block of a grid point, entry by entry. -/
theorem pay1_at (a : Vec Ideal S512x1024 .bf16) (wa : Vec Ideal S1024x2048 .bf16) (b : Vec Ideal S512x1024 .bf16) (wb : Vec Ideal S1024x2048 .bf16)
    (x : Vec Ideal S512x2048 .f32) (g : Vec Ideal S1x2048 .f32) (r : Fin 512) (k : Fin 2048) :
    (k0_pay1 a wa b wb x g (ix2 r k) : EReal) = (x (ix2 r k) : EReal) + (g (ix2 0 k) : EReal)
      * ((∑ j : Fin 1024, (a (ix2 r j) : EReal) * (wa (ix2 j k) : EReal)) + ∑ j : Fin 1024, (b (ix2 r j) : EReal) * (wb (ix2 j k) : EReal)) := by
  unfold k0_pay1
  pointwise

/-- The reference's result of the arguments. -/
abbrev ref (c : Dev nD) : S16384x2048.Idx → EReal := Cert.Reference3Ideal.Out.whole (aX m c) (aA m c) (aB m c) (aW m c) (aQ m c)

/-- A grid point's block is the reference's block of rows. -/
theorem out_at (c : Dev nD) (t : Fin cfg0.N) (r : Fin 512) (k : Fin 2048) :
    (out0_6 (iblk m c 0 t) (iblk m c 1 t) (iblk m c 2 t) (iblk m c 3 t) (iblk m c 4 t) (iblk m c 5 t) (ix2 r k) : EReal) = ref m c (ix2 (row t r) k) := by
  have e : out0_6 (iblk m c 0 t) (iblk m c 1 t) (iblk m c 2 t) (iblk m c 3 t) (iblk m c 4 t) (iblk m c 5 t)
      = k0_pay1 (iblk m c 1 t) (iblk m c 3 t) (iblk m c 2 t) (iblk m c 4 t) (iblk m c 0 t) (iblk m c 5 t) := by frame_out
  rw [e, pay1_at, ref, Cert.Reference3Ideal.Out.whole_at, iblk0, iblk5]
  simp only [iblk1, iblk2, iblk3, iblk4]

/-- The result array is the reference's. -/
theorem final (c : Dev nD) : (dats m 0 c).arrAt 6 cfg0.N = ref m c := by
  refine (dats m 0 c).arrAt_eq_of_covers 6 _ (by decide +kernel) fun t _ y => ?_
  have e := index6 t
  idx_vars y
  blk_simp
  have hE : (win0_6.blk t).view.emb (ix2 y0 y1) = ix2 (row t y0) y1 := by blk_ext [e]
  refine Eq.trans ?_ (congrArg (ref m c) hE).symm
  exact (congrFun (after0_6 m c t) (ix2 y0 y1)).trans (out_at m c t y0 y1)

/-- The program runs and leaves the reference's result. -/
theorem value (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (final m c), (h c).2⟩) (Value.run_blocks m ρ)

end Cert.Kernel3Ideal.Out

end
-- ==== Proof.Mod.Reference.lean ====
module

public import proofs.«01_k».proof.Proof.Gen.Reference4Ideal.Run
public import Idealize.ShloMosaic.Lib.Pointwise
public import Idealize.ShloMosaic.Lib.Pipeline.Value

@[expose] public section

set_option maxRecDepth 16384

noncomputable section

/-! # The modulation's reference, entry by entry -/

namespace Cert.Reference4Ideal.Mod

open Cert.Reference4Ideal Cert.Reference4Ideal.Gen

open Idealize.ShloMosaic Idealize.ShloMosaic.TcCoe

/-- The activated condition. -/
def act (c : FVec Ideal S1x2048 .f32) : FVec Ideal S1x2048 .f32 :=
  mulf c (Host.divf (broadcastInDim S1x2048 ![] bcast_S_S1x2048 (constant S_ .f32 0x3F800000#32))
    (addf (broadcastInDim S1x2048 ![] bcast_S_S1x2048 (constant S_ .f32 0x3F800000#32)) (Host.exp (Host.negf c))))

/-- One layer's modulation from its weight and bias. -/
def layer (c : FVec Ideal S1x2048 .f32) (w : FVec Ideal S2048x12288 .f32) (b : FVec Ideal S12288 .f32) : FVec Ideal S1x1x12288 .f32 :=
  broadcastInDim S1x1x12288 ![1, 2] bcast_S1x12288_S1x1x12288_1_2 (addf
    (Host.dotGeneral dot_S1x2048_S2048x12288_S1x12288_1_0_0_1_n_n none (act c) w)
    (broadcastInDim S1x12288 ![1] bcast_S12288_S1x12288_1 b))

/-- The first layer's weight. -/
def w0 (w : FVec Ideal S2x2048x12288 .f32) : FVec Ideal S2048x12288 .f32 :=
  shapeCast _ (extractStridedSlice S1x2048x12288 ![0, 0, 0] w slices_S2x2048x12288_S1x2048x12288_0_0_0) shapeCasts_S1x2048x12288_S2048x12288

/-- The second layer's weight. -/
def w1 (w : FVec Ideal S2x2048x12288 .f32) : FVec Ideal S2048x12288 .f32 :=
  shapeCast _ (extractStridedSlice S1x2048x12288 ![1, 0, 0] w slices_S2x2048x12288_S1x2048x12288_1_0_0) shapeCasts_S1x2048x12288_S2048x12288

/-- The first layer's bias. -/
def b0 (b : FVec Ideal S2x12288 .f32) : FVec Ideal S12288 .f32 :=
  shapeCast _ (extractStridedSlice S1x12288 ![0, 0] b slices_S2x12288_S1x12288_0_0) shapeCasts_S1x12288_S12288

/-- The second layer's bias. -/
def b1 (b : FVec Ideal S2x12288 .f32) : FVec Ideal S12288 .f32 :=
  shapeCast _ (extractStridedSlice S1x12288 ![1, 0] b slices_S2x12288_S1x12288_1_0) shapeCasts_S1x12288_S12288

/-- The whole reference. -/
def whole (c : FVec Ideal S1x2048 .f32) (w : FVec Ideal S2x2048x12288 .f32) (b : FVec Ideal S2x12288 .f32) : FVec Ideal S2x1x12288 .f32 :=
  concatenate S2x1x12288 0 [⟨S1x1x12288, layer c (w0 w) (b0 b)⟩, ⟨S1x1x12288, layer c (w1 w) (b1 b)⟩] concatenates_S1x1x12288_S1x1x12288_S2x1x12288_d0

/-- An entry times its sigmoid. -/
theorem act_at (c : FVec Ideal S1x2048 .f32) (j : Fin 2048) :
    (act c (ix2 0 j) : EReal) = (c (ix2 0 j) : EReal) * Ideal.div 1 (1 + Ideal.exp (-(c (ix2 0 j) : EReal))) := by
  unfold act
  pointwise

/-- The first layer's weight, entry by entry. -/
theorem w0_at (w : FVec Ideal S2x2048x12288 .f32) (j : Fin 2048) (k : Fin 12288) : (w0 w (ix2 j k) : EReal) = w (ix3 0 j k) := by
  unfold w0
  pointwise

/-- The second layer's weight, entry by entry. -/
theorem w1_at (w : FVec Ideal S2x2048x12288 .f32) (j : Fin 2048) (k : Fin 12288) : (w1 w (ix2 j k) : EReal) = w (ix3 1 j k) := by
  unfold w1
  pointwise

/-- The first layer's bias, entry by entry. -/
theorem b0_at (b : FVec Ideal S2x12288 .f32) (k : Fin 12288) : (b0 b (ix1 k) : EReal) = b (ix2 0 k) := by
  unfold b0
  pointwise

/-- The second layer's bias, entry by entry. -/
theorem b1_at (b : FVec Ideal S2x12288 .f32) (k : Fin 12288) : (b1 b (ix1 k) : EReal) = b (ix2 1 k) := by
  unfold b1
  pointwise

/-- One layer's modulation, entry by entry. -/
theorem layer_at (c : FVec Ideal S1x2048 .f32) (w : FVec Ideal S2048x12288 .f32) (b : FVec Ideal S12288 .f32) (k : Fin 12288) :
    (layer c w b (ix3 0 0 k) : EReal) = (∑ j : Fin 2048, (act c (ix2 0 j) : EReal) * (w (ix2 j k) : EReal)) + (b (ix1 k) : EReal) := by
  unfold layer
  pointwise

/-- The first of the two is the first layer's. -/
theorem whole_at0 (c : FVec Ideal S1x2048 .f32) (w : FVec Ideal S2x2048x12288 .f32) (b : FVec Ideal S2x12288 .f32) (k : Fin 12288) :
    (whole c w b (ix3 0 0 k) : EReal) = layer c (w0 w) (b0 b) (ix3 0 0 k) := by
  unfold whole
  pointwise

/-- The second of the two is the second layer's. -/
theorem whole_at1 (c : FVec Ideal S1x2048 .f32) (w : FVec Ideal S2x2048x12288 .f32) (b : FVec Ideal S2x12288 .f32) (k : Fin 12288) :
    (whole c w b (ix3 1 0 k) : EReal) = layer c (w1 w) (b1 b) (ix3 0 0 k) := by
  unfold whole
  pointwise

/-- The reference, entry by entry. -/
theorem whole_at (c : FVec Ideal S1x2048 .f32) (w : FVec Ideal S2x2048x12288 .f32) (b : FVec Ideal S2x12288 .f32) (l : Fin 2) (k : Fin 12288) :
    (whole c w b (ix3 l 0 k) : EReal)
      = (∑ j : Fin 2048, (c (ix2 0 j) : EReal) * Ideal.div 1 (1 + Ideal.exp (-(c (ix2 0 j) : EReal))) * (w (ix3 l j k) : EReal)) + (b (ix2 l k) : EReal) := by
  match l with
  | 0 => simp only [whole_at0, layer_at, act_at, w0_at, b0_at]
  | 1 => simp only [whole_at1, layer_at, act_at, w1_at, b1_at]

end Cert.Reference4Ideal.Mod

end
-- ==== Proof.Mod.Value.lean ====
module

public import proofs.«01_k».proof.Proof.Gen.Kernel4Ideal.Value
public import proofs.«01_k».proof.Proof.Mod.Reference
public import Idealize.ShloMosaic.Lib.Pipeline.ValueKit
public import Idealize.ShloMosaic.Lib.StableHlo.Run

@[expose] public section

set_option maxRecDepth 16384

noncomputable section

/-! # The modulation's result array -/

namespace Cert.Kernel4Ideal.Mod

open Cert.Kernel4Ideal Cert.Kernel4Ideal.Gen

open Idealize.ShloMosaic Idealize.ShloMosaic.TcCoe Idealize.SL.Sem Idealize.ShloMosaic.StableHlo

variable (m : (ℓ : Loc nD τ sig) → Buf (Elt Ideal) ℓ)

/-- The condition. -/
abbrev aC (c : Dev nD) : S1x2048.Idx → EReal := m ((c.tc : Thread nD τ).loc main_arg0)
/-- The weights. -/
abbrev aW (c : Dev nD) : S2x2048x12288.Idx → EReal := m ((c.tc : Thread nD τ).loc main_arg1)
/-- The biases. -/
abbrev aB (c : Dev nD) : S2x12288.Idx → EReal := m ((c.tc : Thread nD τ).loc main_arg2)

/-- The condition as a column. -/
def colC (x : FVec Ideal S1x2048 .f32) : FVec Ideal S2048x1 .f32 := shapeCast S2048x1 x shapeCasts_S1x2048_S2048x1
/-- The biases with an axis of length one. -/
def midB (x : FVec Ideal S2x12288 .f32) : FVec Ideal S2x1x12288 .f32 := shapeCast S2x1x12288 x shapeCasts_S2x12288_S2x1x12288

/-- The column's entries. -/
theorem colC_at (x : FVec Ideal S1x2048 .f32) (j : Fin 2048) : (colC x (ix2 j 0) : EReal) = x (ix2 0 j) := by
  unfold colC
  pointwise

/-- The biases' entries. -/
theorem midB_at (x : FVec Ideal S2x12288 .f32) (l : Fin 2) (k : Fin 12288) : (midB x (ix3 l 0 k) : EReal) = x (ix2 l k) := by
  unfold midB
  pointwise

/-- The call gets the condition as a column. -/
theorem V_v0 (c : Dev nD) : V m c main_v0 = colC (m ((c.tc : Thread nD τ).loc main_arg0)) := by
  unfold V colC
  after_results_simp <;> rfl

/-- The call gets the biases with an axis of length one. -/
theorem V_v1 (c : Dev nD) : V m c main_v1 = midB (m ((c.tc : Thread nD τ).loc main_arg2)) := by
  unfold V midB
  after_results_simp <;> rfl

theorem index0 : ∀ t : Fin grid0.N, win0_0.index t = ![0, 0] := by decide +kernel
theorem index1 : ∀ t : Fin grid0.N, win0_1.index t = ![t.val / 12, 0, t.val % 12] := by decide +kernel
theorem index2 : ∀ t : Fin grid0.N, win0_2.index t = ![t.val / 12, 0, t.val % 12] := by decide +kernel
theorem index3 : ∀ t : Fin grid0.N, win0_3.index t = ![t.val / 12, 0, t.val % 12] := by decide +kernel

theorem lt_N (t : Fin cfg0.N) : t.val < 24 := lt_of_lt_of_eq t.isLt N_0

/-- The layer of a grid point. -/
abbrev lay (t : Fin cfg0.N) : Fin 2 := ⟨t.val / 12, by have := lt_N t; omega⟩
/-- The array column of a block's column. -/
abbrev col (t : Fin cfg0.N) (k : Fin 1024) : Fin 12288 := ⟨1024 * (t.val % 12) + k.val, by omega⟩

theorem iblk0 (c : Dev nD) (t : Fin cfg0.N) (j : Fin 2048) : (iblk m c 0 t (ix2 j 0) : EReal) = aC m c (ix2 0 j) := by
  have e := index0 t
  blk_simp [iblk, e]
  refine (congrFun (V_v0 m c) _).trans (Eq.trans (congrArg (colC (aC m c)) ?_) (colC_at _ j))
  blk_ext [e]

theorem iblk1 (c : Dev nD) (t : Fin cfg0.N) (j : Fin 2048) (k : Fin 1024) : (iblk m c 1 t (ix3 0 j k) : EReal) = aW m c (ix3 (lay t) j (col t k)) := by
  have e := index1 t
  blk_simp [iblk, e]
  refine (congrFun (V_main_arg1 m c) _).trans (congrArg (aW m c) ?_)
  blk_ext [e]

theorem iblk2 (c : Dev nD) (t : Fin cfg0.N) (k : Fin 1024) : (iblk m c 2 t (ix3 0 0 k) : EReal) = aB m c (ix2 (lay t) (col t k)) := by
  have e := index2 t
  blk_simp [iblk, e]
  refine (congrFun (V_v1 m c) _).trans (Eq.trans (congrArg (midB (aB m c)) ?_) (midB_at _ (lay t) (col t k)))
  blk_ext [e]

/-- The block of a grid point, entry by entry. -/
theorem pay1_at (x : Vec Ideal S2048x1 .f32) (w : Vec Ideal S1x2048x1024 .f32) (b : Vec Ideal S1x1x1024 .f32) (k : Fin 1024) :
    (k0_pay1 x w b (ix3 0 0 k) : EReal)
      = (∑ j : Fin 2048, (x (ix2 j 0) : EReal) * Ideal.div 1 (1 + Ideal.exp (-(x (ix2 j 0) : EReal))) * (w (ix3 0 j k) : EReal)) + (b (ix3 0 0 k) : EReal) := by
  unfold k0_pay1
  pointwise
  simp only [zero_sub]

/-- The reference's result of the arguments. -/
abbrev ref (c : Dev nD) : S2x1x12288.Idx → EReal := Cert.Reference4Ideal.Mod.whole (aC m c) (aW m c) (aB m c)

/-- A grid point's block is the reference's block of columns. -/
theorem out_at (c : Dev nD) (t : Fin cfg0.N) (k : Fin 1024) :
    (out0_3 (iblk m c 0 t) (iblk m c 1 t) (iblk m c 2 t) (ix3 0 0 k) : EReal) = ref m c (ix3 (lay t) 0 (col t k)) := by
  have e : out0_3 (iblk m c 0 t) (iblk m c 1 t) (iblk m c 2 t) = k0_pay1 (iblk m c 0 t) (iblk m c 1 t) (iblk m c 2 t) := by frame_out
  rw [e, pay1_at, ref, Cert.Reference4Ideal.Mod.whole_at, iblk2]
  simp only [iblk0, iblk1]

/-- The result array is the reference's. -/
theorem final (c : Dev nD) : (dats m 0 c).arrAt 3 cfg0.N = ref m c := by
  refine (dats m 0 c).arrAt_eq_of_covers 3 _ (by decide +kernel) fun t _ y => ?_
  have e := index3 t
  idx_vars y
  obtain rfl : y0 = 0 := Subsingleton.elim _ _
  obtain rfl : y1 = 0 := Subsingleton.elim _ _
  blk_simp
  have hE : (win0_3.blk t).view.emb (ix3 0 0 y2) = ix3 (lay t) 0 (col t y2) := by blk_ext [e]
  refine Eq.trans ?_ (congrArg (ref m c) hE).symm
  exact (congrFun (after0_3 m c t) (ix3 0 0 y2)).trans (out_at m c t y2)

/-- The program runs and leaves the reference's result. -/
theorem value (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (final m c), (h c).2⟩) (Value.run_blocks m ρ)

end Cert.Kernel4Ideal.Mod

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Attn.Value
public import proofs.«01_k».proof.Proof.Ffn.Value
public import proofs.«01_k».proof.Proof.Out.Value
public import proofs.«01_k».proof.Proof.Mod.Value

@[expose] public section

noncomputable section

/-! # Stick-breaking attention, the feed-forward part, the output projection and the modulation: the certificate's claim -/

namespace Cert.Proof

open Idealize.ShloMosaic Idealize.SL.Sem

/-- Kernel and reference compute the same attention over the extended reals. -/
theorem algebraic : Cert.algebraic_KernelIdeal_ReferenceIdeal := fun m g m' g' _ hm =>
  ⟨fun c => Cert.ReferenceIdeal.Attn.whole (m ((c.tc : Thread Cert.KernelIdeal.nD Cert.KernelIdeal.τ).loc Cert.KernelIdeal.main_arg0)),
   Cert.KernelIdeal.Attn.value m g,
   (θ_run Cert.ReferenceIdeal.defs _ _).mono
     (fun r h c => ⟨((h c).1.trans (Cert.ReferenceIdeal.Attn.res_eq m' c)).trans (congrArg Cert.ReferenceIdeal.Attn.whole (hm c).1), (h c).2⟩)
     (Cert.ReferenceIdeal.Value.run (F := Ideal) m' g')⟩

/-- The feed-forward kernel and its reference compute the same array over the extended reals. -/
theorem algebraic2 : Cert.algebraic_Kernel2Ideal_Reference2Ideal := fun m g m' g' _ hm =>
  ⟨fun c => Cert.Kernel2Ideal.Ffn.ref m c,
   Cert.Kernel2Ideal.Ffn.value m g,
   (θ_run Cert.Reference2Ideal.defs _ _).mono
     (fun r h c => ⟨((h c).1.trans (Cert.Reference2Ideal.Ffn.res_eq m' c)).trans (by
        obtain ⟨h0, h1, h2, h3, h4, h5, h6, h7⟩ := hm c
        rw [h0, h1, h2, h3, h4, h5, h6, h7]), (h c).2⟩)
     (Cert.Reference2Ideal.Value.run (F := Ideal) m' g')⟩

/-- The output projection and its reference compute the same array over the extended reals. -/
theorem algebraic3 : Cert.algebraic_Kernel3Ideal_Reference3Ideal := fun m g m' g' _ hm =>
  ⟨fun c => Cert.Kernel3Ideal.Out.ref m c,
   Cert.Kernel3Ideal.Out.value m g,
   (θ_run Cert.Reference3Ideal.defs _ _).mono
     (fun r h c => ⟨(h c).1.trans (by
        obtain ⟨h0, h1, h2, h3, h4⟩ := hm c
        rw [h0, h1, h2, h3, h4]
        rfl), (h c).2⟩)
     (Cert.Reference3Ideal.Value.run (F := Ideal) m' g')⟩

/-- The modulation and its reference compute the same array over the extended reals. -/
theorem algebraic4 : Cert.algebraic_Kernel4Ideal_Reference4Ideal := fun m g m' g' _ hm =>
  ⟨fun c => Cert.Kernel4Ideal.Mod.ref m c,
   Cert.Kernel4Ideal.Mod.value m g,
   (θ_run Cert.Reference4Ideal.defs _ _).mono
     (fun r h c => ⟨(h c).1.trans (by
        obtain ⟨h0, h1, h2⟩ := hm c
        rw [h0, h1, h2]
        rfl), (h c).2⟩)
     (Cert.Reference4Ideal.Value.run (F := Ideal) m' g')⟩

/-- All twenty claims; the text of every kernel but the first is the same over the extended reals, so there is nothing to preserve. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   frame_kernel, frame_ideal, frame_reference, frame_kernel2, frame_ideal2, frame_reference2,
   frame_kernel3, frame_ideal3, frame_reference3, frame_kernel4, frame_ideal4, frame_reference4,
   preserves, algebraic, trivial, algebraic2, trivial, algebraic3, trivial, algebraic4⟩

end Cert.Proof

end
